-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x512 : Shape := ⟨2, ![512, 512]⟩
abbrev S512x256 : Shape := ⟨2, ![512, 256]⟩
abbrev S4096x256 : Shape := ⟨2, ![4096, 256]⟩
abbrev S512x2048 : Shape := ⟨2, ![512, 2048]⟩
abbrev S7x512x512 : Shape := ⟨3, ![7, 512, 512]⟩
abbrev S7x512x256 : Shape := ⟨3, ![7, 512, 256]⟩
abbrev S7 : Shape := ⟨1, ![7]⟩
abbrev S_ : Shape := ⟨0, ![]⟩
abbrev S1 : Shape := ⟨1, ![1]⟩
abbrev S1x512x512 : Shape := ⟨3, ![1, 512, 512]⟩
abbrev S1x512x256 : Shape := ⟨3, ![1, 512, 256]⟩

abbrev nBuf : Space → Nat
  | .hbm => 4
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512x256, .f32⟩
  | .hbm, ⟨3, _⟩ => ⟨S4096x256, .f32⟩
  | .local _ .vmem, ⟨0, _⟩ => ⟨S4096x512, .f32⟩
  | .local _ .vmem, ⟨1, _⟩ => ⟨S512x512, .f32⟩
  | .local _ .vmem, ⟨2, _⟩ => ⟨S512x256, .f32⟩
  | .local _ .vmem, ⟨3, _⟩ => ⟨S4096x256, .f32⟩
  | .local _ .vmem, ⟨4, _⟩ => ⟨S4096x512, .f32⟩
  | .local _ .vmem, ⟨5, _⟩ => ⟨S4096x512, .bf16⟩
  | .local _ .vmem, ⟨6, _⟩ => ⟨S512x512, .bf16⟩
  | .local _ .vmem, ⟨7, _⟩ => ⟨S512x256, .bf16⟩
  | .local _ .vmem, ⟨8, _⟩ => ⟨S512x2048, .bf16⟩
  | .local _ .vmem, ⟨9, _⟩ => ⟨S512x2048, .f32⟩
  | .local _ .vmem, ⟨10, _⟩ => ⟨S512x2048, .bf16⟩
  | .local _ .vmem, ⟨11, _⟩ => ⟨S7x512x512, .bf16⟩
  | .local _ .vmem, ⟨12, _⟩ => ⟨S7x512x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 2 → Bool
  | ⟨0, _⟩ => false
  | ⟨1, _⟩ => true
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 2 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v41 : BitVec 32 := Scalar.muli v2 c256_i32
  ![0, v41.toNat]
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v38 : BitVec 32 := Scalar.addi v2 c1_i32_32
  let c0_i32_33 : BitVec 32 := 0#32
  let v39 : BitVec 32 := Scalar.addi v38 c0_i32_33
  let c8_i32_34 : BitVec 32 := 8#32
  let v40 : BitVec 32 := Scalar.remsi v39 c8_i32_34
  let c1_i32_37 : BitVec 32 := 1#32
  let v42 : BitVec 32 := Scalar.muli v40 c1_i32_37
  let v43 : BitVec 32 := Scalar.addi c0_i32_38 v42
  v43.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v49 : BitVec 32 := Scalar.addi v2 c1_i32_40
  let c1_i32_41 : BitVec 32 := 1#32
  let v50 : BitVec 32 := Scalar.addi v49 c1_i32_41
  let c8_i32_42 : BitVec 32 := 8#32
  let v51 : BitVec 32 := Scalar.remsi v50 c8_i32_42
  let c1_i32_46 : BitVec 32 := 1#32
  let v53 : BitVec 32 := Scalar.muli v51 c1_i32_46
  let v54 : BitVec 32 := Scalar.addi c0_i32_47 v53
  v54.toNat
def k0_dev10 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let v60 : BitVec 32 := Scalar.addi v2 c1_i32_49
  let c2_i32_50 : BitVec 32 := 2#32
  let v61 : BitVec 32 := Scalar.addi v60 c2_i32_50
  let c8_i32_51 : BitVec 32 := 8#32
  let v62 : BitVec 32 := Scalar.remsi v61 c8_i32_51
  let c1_i32_55 : BitVec 32 := 1#32
  let v64 : BitVec 32 := Scalar.muli v62 c1_i32_55
  let v65 : BitVec 32 := Scalar.addi c0_i32_56 v64
  v65.toNat
def k0_dev11 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v71 : BitVec 32 := Scalar.addi v2 c1_i32_58
  let c3_i32_59 : BitVec 32 := 3#32
  let v72 : BitVec 32 := Scalar.addi v71 c3_i32_59
  let c8_i32_60 : BitVec 32 := 8#32
  let v73 : BitVec 32 := Scalar.remsi v72 c8_i32_60
  let c1_i32_64 : BitVec 32 := 1#32
  let v75 : BitVec 32 := Scalar.muli v73 c1_i32_64
  let v76 : BitVec 32 := Scalar.addi c0_i32_65 v75
  v76.toNat
def k0_dev12 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v82 : BitVec 32 := Scalar.addi v2 c1_i32_67
  let c4_i32_68 : BitVec 32 := 4#32
  let v83 : BitVec 32 := Scalar.addi v82 c4_i32_68
  let c8_i32_69 : BitVec 32 := 8#32
  let v84 : BitVec 32 := Scalar.remsi v83 c8_i32_69
  let c1_i32_73 : BitVec 32 := 1#32
  let v86 : BitVec 32 := Scalar.muli v84 c1_i32_73
  let v87 : BitVec 32 := Scalar.addi c0_i32_74 v86
  v87.toNat
def k0_dev13 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_76 : BitVec 32 := 1#32
  let v93 : BitVec 32 := Scalar.addi v2 c1_i32_76
  let c5_i32_77 : BitVec 32 := 5#32
  let v94 : BitVec 32 := Scalar.addi v93 c5_i32_77
  let c8_i32_78 : BitVec 32 := 8#32
  let v95 : BitVec 32 := Scalar.remsi v94 c8_i32_78
  let c1_i32_82 : BitVec 32 := 1#32
  let v97 : BitVec 32 := Scalar.muli v95 c1_i32_82
  let v98 : BitVec 32 := Scalar.addi c0_i32_83 v97
  v98.toNat
def k0_dev14 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v104 : BitVec 32 := Scalar.addi v2 c1_i32_85
  let c6_i32_86 : BitVec 32 := 6#32
  let v105 : BitVec 32 := Scalar.addi v104 c6_i32_86
  let c8_i32_87 : BitVec 32 := 8#32
  let v106 : BitVec 32 := Scalar.remsi v105 c8_i32_87
  let c1_i32_91 : BitVec 32 := 1#32
  let v108 : BitVec 32 := Scalar.muli v106 c1_i32_91
  let v109 : BitVec 32 := Scalar.addi c0_i32_92 v108
  v109.toNat
def k0_off2 (d0 : Dev nD) : Fin 2 → Nat :=
  let c0_97 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_96 : BitVec 32 := 256#32
  let v116 : BitVec 32 := Scalar.muli v2 c256_i32_96
  let v117 : Index := Scalar.indexCast v116
  ![0, v117.toNat]
def k0_off3 (d0 : Dev nD) (c0_i32_109 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_108 : BitVec 32 := 1#32
  let v134 : BitVec 32 := Scalar.addi v2 c1_i32_108
  let v135 : BitVec 32 := Scalar.addi v134 c0_i32_109
  let c8_i32_110 : BitVec 32 := 8#32
  let v136 : BitVec 32 := Scalar.remsi v135 c8_i32_110
  let c512_i32 : BitVec 32 := 512#32
  let v137 : BitVec 32 := Scalar.muli v136 c512_i32
  let c0_i32_118 : BitVec 32 := 0#32
  ![v137.toNat, 0]
def k0_dev15 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_108 : BitVec 32 := 1#32
  let v134 : BitVec 32 := Scalar.addi v2 c1_i32_108
  let c0_i32_109 : BitVec 32 := 0#32
  let v135 : BitVec 32 := Scalar.addi v134 c0_i32_109
  let c8_i32_110 : BitVec 32 := 8#32
  let v136 : BitVec 32 := Scalar.remsi v135 c8_i32_110
  let c1_i32_114 : BitVec 32 := 1#32
  let v138 : BitVec 32 := Scalar.muli v136 c1_i32_114
  let v139 : BitVec 32 := Scalar.addi c0_i32_115 v138
  v139.toNat
def k0_dev16 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_119 : BitVec 32 := 1#32
  let v147 : BitVec 32 := Scalar.addi v2 c1_i32_119
  let c1_i32_120 : BitVec 32 := 1#32
  let v148 : BitVec 32 := Scalar.addi v147 c1_i32_120
  let c8_i32_121 : BitVec 32 := 8#32
  let v149 : BitVec 32 := Scalar.remsi v148 c8_i32_121
  let c1_i32_126 : BitVec 32 := 1#32
  let v151 : BitVec 32 := Scalar.muli v149 c1_i32_126
  let v152 : BitVec 32 := Scalar.addi c0_i32_127 v151
  v152.toNat
def k0_dev17 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v160 : BitVec 32 := Scalar.addi v2 c1_i32_131
  let c2_i32_132 : BitVec 32 := 2#32
  let v161 : BitVec 32 := Scalar.addi v160 c2_i32_132
  let c8_i32_133 : BitVec 32 := 8#32
  let v162 : BitVec 32 := Scalar.remsi v161 c8_i32_133
  let c1_i32_138 : BitVec 32 := 1#32
  let v164 : BitVec 32 := Scalar.muli v162 c1_i32_138
  let v165 : BitVec 32 := Scalar.addi c0_i32_139 v164
  v165.toNat
def k0_dev18 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_143 : BitVec 32 := 1#32
  let v173 : BitVec 32 := Scalar.addi v2 c1_i32_143
  let c3_i32_144 : BitVec 32 := 3#32
  let v174 : BitVec 32 := Scalar.addi v173 c3_i32_144
  let c8_i32_145 : BitVec 32 := 8#32
  let v175 : BitVec 32 := Scalar.remsi v174 c8_i32_145
  let c1_i32_150 : BitVec 32 := 1#32
  let v177 : BitVec 32 := Scalar.muli v175 c1_i32_150
  let v178 : BitVec 32 := Scalar.addi c0_i32_151 v177
  v178.toNat
def k0_dev19 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_155 : BitVec 32 := 1#32
  let v186 : BitVec 32 := Scalar.addi v2 c1_i32_155
  let c4_i32_156 : BitVec 32 := 4#32
  let v187 : BitVec 32 := Scalar.addi v186 c4_i32_156
  let c8_i32_157 : BitVec 32 := 8#32
  let v188 : BitVec 32 := Scalar.remsi v187 c8_i32_157
  let c1_i32_162 : BitVec 32 := 1#32
  let v190 : BitVec 32 := Scalar.muli v188 c1_i32_162
  let v191 : BitVec 32 := Scalar.addi c0_i32_163 v190
  v191.toNat
def k0_dev20 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_167 : BitVec 32 := 1#32
  let v199 : BitVec 32 := Scalar.addi v2 c1_i32_167
  let c5_i32_168 : BitVec 32 := 5#32
  let v200 : BitVec 32 := Scalar.addi v199 c5_i32_168
  let c8_i32_169 : BitVec 32 := 8#32
  let v201 : BitVec 32 := Scalar.remsi v200 c8_i32_169
  let c1_i32_174 : BitVec 32 := 1#32
  let v203 : BitVec 32 := Scalar.muli v201 c1_i32_174
  let v204 : BitVec 32 := Scalar.addi c0_i32_175 v203
  v204.toNat
def k0_dev21 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_179 : BitVec 32 := 1#32
  let v212 : BitVec 32 := Scalar.addi v2 c1_i32_179
  let c6_i32_180 : BitVec 32 := 6#32
  let v213 : BitVec 32 := Scalar.addi v212 c6_i32_180
  let c8_i32_181 : BitVec 32 := 8#32
  let v214 : BitVec 32 := Scalar.remsi v213 c8_i32_181
  let c1_i32_186 : BitVec 32 := 1#32
  let v216 : BitVec 32 := Scalar.muli v214 c1_i32_186
  let v217 : BitVec 32 := Scalar.addi c0_i32_187 v216
  v217.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_191 : BitVec 32 := 512#32
  let v225 : BitVec 32 := Scalar.muli v2 c512_i32_191
  let v226 : Index := Scalar.indexCast v225
  let c0_192 : Index := 0#32
  ![v226.toNat, 0]
def k0_off5 (d0 : Dev nD) (c0_i32_313 : BitVec 32) : Fin 2 → Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_312 : BitVec 32 := 1#32
  let v355 : BitVec 32 := Scalar.addi v2 c1_i32_312
  let v356 : BitVec 32 := Scalar.addi v355 c0_i32_313
  let c8_i32_314 : BitVec 32 := 8#32
  let v357 : BitVec 32 := Scalar.remsi v356 c8_i32_314
  let c256_i32_315 : BitVec 32 := 256#32
  let v358 : BitVec 32 := Scalar.muli v357 c256_i32_315
  ![0, v358.toNat]
def k0_dev22 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_312 : BitVec 32 := 1#32
  let v355 : BitVec 32 := Scalar.addi v2 c1_i32_312
  let c0_i32_313 : BitVec 32 := 0#32
  let v356 : BitVec 32 := Scalar.addi v355 c0_i32_313
  let c8_i32_314 : BitVec 32 := 8#32
  let v357 : BitVec 32 := Scalar.remsi v356 c8_i32_314
  let c1_i32_319 : BitVec 32 := 1#32
  let v359 : BitVec 32 := Scalar.muli v357 c1_i32_319
  let v360 : BitVec 32 := Scalar.addi c0_i32_320 v359
  v360.toNat
def k0_dev23 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_324 : BitVec 32 := 1#32
  let v368 : BitVec 32 := Scalar.addi v2 c1_i32_324
  let c1_i32_325 : BitVec 32 := 1#32
  let v369 : BitVec 32 := Scalar.addi v368 c1_i32_325
  let c8_i32_326 : BitVec 32 := 8#32
  let v370 : BitVec 32 := Scalar.remsi v369 c8_i32_326
  let c1_i32_331 : BitVec 32 := 1#32
  let v372 : BitVec 32 := Scalar.muli v370 c1_i32_331
  let v373 : BitVec 32 := Scalar.addi c0_i32_332 v372
  v373.toNat
def k0_dev24 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_336 : BitVec 32 := 1#32
  let v381 : BitVec 32 := Scalar.addi v2 c1_i32_336
  let c2_i32_337 : BitVec 32 := 2#32
  let v382 : BitVec 32 := Scalar.addi v381 c2_i32_337
  let c8_i32_338 : BitVec 32 := 8#32
  let v383 : BitVec 32 := Scalar.remsi v382 c8_i32_338
  let c1_i32_343 : BitVec 32 := 1#32
  let v385 : BitVec 32 := Scalar.muli v383 c1_i32_343
  let v386 : BitVec 32 := Scalar.addi c0_i32_344 v385
  v386.toNat
def k0_dev25 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_348 : BitVec 32 := 1#32
  let v394 : BitVec 32 := Scalar.addi v2 c1_i32_348
  let c3_i32_349 : BitVec 32 := 3#32
  let v395 : BitVec 32 := Scalar.addi v394 c3_i32_349
  let c8_i32_350 : BitVec 32 := 8#32
  let v396 : BitVec 32 := Scalar.remsi v395 c8_i32_350
  let c1_i32_355 : BitVec 32 := 1#32
  let v398 : BitVec 32 := Scalar.muli v396 c1_i32_355
  let v399 : BitVec 32 := Scalar.addi c0_i32_356 v398
  v399.toNat
def k0_dev26 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_360 : BitVec 32 := 1#32
  let v407 : BitVec 32 := Scalar.addi v2 c1_i32_360
  let c4_i32_361 : BitVec 32 := 4#32
  let v408 : BitVec 32 := Scalar.addi v407 c4_i32_361
  let c8_i32_362 : BitVec 32 := 8#32
  let v409 : BitVec 32 := Scalar.remsi v408 c8_i32_362
  let c1_i32_367 : BitVec 32 := 1#32
  let v411 : BitVec 32 := Scalar.muli v409 c1_i32_367
  let v412 : BitVec 32 := Scalar.addi c0_i32_368 v411
  v412.toNat
def k0_dev27 (d0 : Dev nD) : Nat :=
  let c0_i32_380 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_372 : BitVec 32 := 1#32
  let v420 : BitVec 32 := Scalar.addi v2 c1_i32_372
  let c5_i32_373 : BitVec 32 := 5#32
  let v421 : BitVec 32 := Scalar.addi v420 c5_i32_373
  let c8_i32_374 : BitVec 32 := 8#32
  let v422 : BitVec 32 := Scalar.remsi v421 c8_i32_374
  let c1_i32_379 : BitVec 32 := 1#32
  let v424 : BitVec 32 := Scalar.muli v422 c1_i32_379
  let v425 : BitVec 32 := Scalar.addi c0_i32_380 v424
  v425.toNat
def k0_dev28 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_384 : BitVec 32 := 1#32
  let v433 : BitVec 32 := Scalar.addi v2 c1_i32_384
  let c6_i32_385 : BitVec 32 := 6#32
  let v434 : BitVec 32 := Scalar.addi v433 c6_i32_385
  let c8_i32_386 : BitVec 32 := 8#32
  let v435 : BitVec 32 := Scalar.remsi v434 c8_i32_386
  let c1_i32_391 : BitVec 32 := 1#32
  let v437 : BitVec 32 := Scalar.muli v435 c1_i32_391
  let v438 : BitVec 32 := Scalar.addi c0_i32_392 v437
  v438.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_398 : BitVec 32 := 512#32
  let v449 : BitVec 32 := Scalar.muli v2 c512_i32_398
  let v450 : Index := Scalar.indexCast v449
  let c0_399 : Index := 0#32
  ![v450.toNat, 0]
def k0_off7 (d0 : Dev nD) (c0_i32_410 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_408 : BitVec 32 := 8#32
  let v459 : BitVec 32 := Scalar.addi v2 c8_i32_408
  let c1_i32_409 : BitVec 32 := 1#32
  let v460 : BitVec 32 := Scalar.subi v459 c1_i32_409
  let v461 : BitVec 32 := Scalar.subi v460 c0_i32_410
  let c8_i32_411 : BitVec 32 := 8#32
  let v462 : BitVec 32 := Scalar.remsi v461 c8_i32_411
  let c512_i32_415 : BitVec 32 := 512#32
  let v466 : BitVec 32 := Scalar.muli v462 c512_i32_415
  let v467 : Index := Scalar.indexCast v466
  let c0_416 : Index := 0#32
  ![v467.toNat, 0]
def k0_dev29 (d0 : Dev nD) : Nat :=
  let c0_i32_649_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_645_r0 : BitVec 32 := 1#32
  let v663_r0 : BitVec 32 := Scalar.addi v2 c1_i32_645_r0
  let c8_i32_646_r0 : BitVec 32 := 8#32
  let v664_r0 : BitVec 32 := Scalar.remsi v663_r0 c8_i32_646_r0
  let c1_i32_648_r0 : BitVec 32 := 1#32
  let v665_r0 : BitVec 32 := Scalar.muli v664_r0 c1_i32_648_r0
  let v666_r0 : BitVec 32 := Scalar.addi c0_i32_649_r0 v665_r0
  v666_r0.toNat
def k0_dev30 (d0 : Dev nD) : Nat :=
  let c0_i32_654_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_650_r0 : BitVec 32 := 2#32
  let v667_r0 : BitVec 32 := Scalar.addi v2 c2_i32_650_r0
  let c8_i32_651_r0 : BitVec 32 := 8#32
  let v668_r0 : BitVec 32 := Scalar.remsi v667_r0 c8_i32_651_r0
  let c1_i32_653_r0 : BitVec 32 := 1#32
  let v669_r0 : BitVec 32 := Scalar.muli v668_r0 c1_i32_653_r0
  let v670_r0 : BitVec 32 := Scalar.addi c0_i32_654_r0 v669_r0
  v670_r0.toNat
def k0_dev31 (d0 : Dev nD) : Nat :=
  let c0_i32_659_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_655_r0 : BitVec 32 := 3#32
  let v671_r0 : BitVec 32 := Scalar.addi v2 c3_i32_655_r0
  let c8_i32_656_r0 : BitVec 32 := 8#32
  let v672_r0 : BitVec 32 := Scalar.remsi v671_r0 c8_i32_656_r0
  let c1_i32_658_r0 : BitVec 32 := 1#32
  let v673_r0 : BitVec 32 := Scalar.muli v672_r0 c1_i32_658_r0
  let v674_r0 : BitVec 32 := Scalar.addi c0_i32_659_r0 v673_r0
  v674_r0.toNat
def k0_dev32 (d0 : Dev nD) : Nat :=
  let c0_i32_664_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_660_r0 : BitVec 32 := 4#32
  let v675_r0 : BitVec 32 := Scalar.addi v2 c4_i32_660_r0
  let c8_i32_661_r0 : BitVec 32 := 8#32
  let v676_r0 : BitVec 32 := Scalar.remsi v675_r0 c8_i32_661_r0
  let c1_i32_663_r0 : BitVec 32 := 1#32
  let v677_r0 : BitVec 32 := Scalar.muli v676_r0 c1_i32_663_r0
  let v678_r0 : BitVec 32 := Scalar.addi c0_i32_664_r0 v677_r0
  v678_r0.toNat
def k0_dev33 (d0 : Dev nD) : Nat :=
  let c0_i32_669_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_665_r0 : BitVec 32 := 5#32
  let v679_r0 : BitVec 32 := Scalar.addi v2 c5_i32_665_r0
  let c8_i32_666_r0 : BitVec 32 := 8#32
  let v680_r0 : BitVec 32 := Scalar.remsi v679_r0 c8_i32_666_r0
  let c1_i32_668_r0 : BitVec 32 := 1#32
  let v681_r0 : BitVec 32 := Scalar.muli v680_r0 c1_i32_668_r0
  let v682_r0 : BitVec 32 := Scalar.addi c0_i32_669_r0 v681_r0
  v682_r0.toNat
def k0_dev34 (d0 : Dev nD) : Nat :=
  let c0_i32_674_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_670_r0 : BitVec 32 := 6#32
  let v683_r0 : BitVec 32 := Scalar.addi v2 c6_i32_670_r0
  let c8_i32_671_r0 : BitVec 32 := 8#32
  let v684_r0 : BitVec 32 := Scalar.remsi v683_r0 c8_i32_671_r0
  let c1_i32_673_r0 : BitVec 32 := 1#32
  let v685_r0 : BitVec 32 := Scalar.muli v684_r0 c1_i32_673_r0
  let v686_r0 : BitVec 32 := Scalar.addi c0_i32_674_r0 v685_r0
  v686_r0.toNat
def k0_dev35 (d0 : Dev nD) : Nat :=
  let c0_i32_679_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_675_r0 : BitVec 32 := 7#32
  let v687_r0 : BitVec 32 := Scalar.addi v2 c7_i32_675_r0
  let c8_i32_676_r0 : BitVec 32 := 8#32
  let v688_r0 : BitVec 32 := Scalar.remsi v687_r0 c8_i32_676_r0
  let c1_i32_678_r0 : BitVec 32 := 1#32
  let v689_r0 : BitVec 32 := Scalar.muli v688_r0 c1_i32_678_r0
  let v690_r0 : BitVec 32 := Scalar.addi c0_i32_679_r0 v689_r0
  v690_r0.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S512x2048, .f32⟩
  | .hbm, ⟨3, _⟩ => ⟨S4096x512, .f32⟩
  | .hbm, ⟨4, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.KernelIdealProto.lean ====
/-
The protocol of the kernel among its eight devices: who sends to whom, which semaphore counts which arrival, what each
arrival carries, what every device owes when the kernel starts, and the order in which it pays.

Device c's partner number t (t = 0 … 6) is device c + t + 1 around the circle; the partner, in turn, counts c as its
partner number 6 - t.  What c sends to its partner number t lands on the partner's semaphore number 6 - t, in the
partner's slot number 6 - t.

In order, each device
  1. signals the entry barrier of its seven partners, lending to each the three places that partner will write
     (a column block of the gathered second weight, one slot for partial sums, one slot for results), and waits for
     seven signals on its own;
  2. sends its block of the second weight to the seven partners;
  3. sends the seven row blocks of its partial product;
  4. waits for seven partial sums and seven weight blocks;
  5. sends the seven column blocks of its result, and waits for seven;
  6. waits for its own twenty-one transfers to have left;
  7. signals the exit semaphore of its seven partners and waits for seven signals.
Every semaphore is used for one round only.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Memref
public import Idealize.ShloMosaic.Lib.Ring

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's own, and the protocol's with duties numbered 0 … 6 -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners -/

set_option backward.proofsInPublic true in
/-- Partner number `t` of device `c`. -/
def peer (c : Dev nD) (t : Fin 7) : Dev nD := ⟨(c.val + t.val + 1) % 8, Nat.mod_lt _ (by decide)⟩

/-- The partner's number for `c`. -/
abbrev rv (t : Fin 7) : Fin 7 := Fin.rev t

theorem peer_peer : ∀ (c : Dev nD) (t : Fin 7), peer (peer c t) (rv t) = c := by decide
theorem peer_peer' : ∀ (c : Dev nD) (t : Fin 7), peer (peer c (rv t)) t = c := by decide
theorem peer_ne : ∀ (c : Dev nD) (t : Fin 7), peer c t ≠ c := by decide
theorem peer_inj : ∀ (c : Dev nD) (t t' : Fin 7), peer c t = peer c t' → t = t' := by decide
theorem rv_rv (t : Fin 7) : rv (rv t) = t := Fin.rev_rev t

/-- Device to partner number `t`, as a permutation of the devices. -/
def around (t : Fin 7) : Dev nD ≃ Dev nD := ⟨fun c => peer c t, fun c => peer c (rv t), fun c => peer_peer c t, fun c => peer_peer' c t⟩

/-- The devices are `c` and its partners. -/
theorem univ_eq_peers : ∀ c : Dev nD, (Finset.univ : Finset (Dev nD)) = insert c (Finset.univ.image (peer c)) := by decide

/-! ## Blocks and slots -/

/-- Column block `s` of a 512×2048 array, row block `s` of a 4096×512 one, row block `s` of the 4096×256 result,
    the slots of the two landing buffers. -/
theorem inbC : ∀ (s : Dev nD) (a), (![0, 256 * s.val] : Fin 2 → ℕ) a + S512x256.size a ≤ S512x2048.size a := by decide
theorem inbR : ∀ (s : Dev nD) (a), (![512 * s.val, 0] : Fin 2 → ℕ) a + S512x512.size a ≤ S4096x512.size a := by decide
theorem inbO : ∀ (s : Dev nD) (a), (![512 * s.val, 0] : Fin 2 → ℕ) a + S512x256.size a ≤ S4096x256.size a := by decide
theorem inbS : ∀ (j : Fin 7) (a), (![j.val, 0, 0] : Fin 3 → ℕ) a + S1x512x512.size a ≤ S7x512x512.size a := by decide
theorem inbT : ∀ (j : Fin 7) (a), (![j.val, 0, 0] : Fin 3 → ℕ) a + S1x512x256.size a ≤ S7x512x256.size a := by decide
abbrev colR (s : Dev nD) : Rect S512x2048 := Rect.unit (s := S512x2048) ![0, 256 * s.val] S512x256.size (inbC s)
abbrev rowR (s : Dev nD) : Rect S4096x512 := Rect.unit (s := S4096x512) ![512 * s.val, 0] S512x512.size (inbR s)
abbrev rowO (s : Dev nD) : Rect S4096x256 := Rect.unit (s := S4096x256) ![512 * s.val, 0] S512x256.size (inbO s)
abbrev sltR (j : Fin 7) : Rect S7x512x512 := Rect.unit (s := S7x512x512) ![j.val, 0, 0] S1x512x512.size (inbS j)
abbrev sltO (j : Fin 7) : Rect S7x512x256 := Rect.unit (s := S7x512x256) ![j.val, 0, 0] S1x512x256.size (inbT j)

abbrev xM : Memref sig .tc .vmem S4096x512 .f32 := Memref.whole cc0_stg0_0
abbrev w1M : Memref sig .tc .vmem S512x512 .f32 := Memref.whole cc0_stg1_0
abbrev w2M : Memref sig .tc .vmem S512x256 .f32 := Memref.whole cc0_stg2_0
abbrev oM : Memref sig .tc .vmem S4096x256 .f32 := Memref.whole cc0_stg3_0
abbrev hM : Memref sig .tc .vmem S4096x512 .f32 := Memref.whole cc0_scratch0
abbrev hbM : Memref sig .tc .vmem S4096x512 .bf16 := Memref.whole cc0_scratch1
abbrev hcM : Memref sig .tc .vmem S512x512 .bf16 := Memref.whole cc0_scratch2
abbrev wbM : Memref sig .tc .vmem S512x256 .bf16 := Memref.whole cc0_scratch3
abbrev wfM : Memref sig .tc .vmem S512x2048 .bf16 := Memref.whole cc0_scratch4
abbrev ocM : Memref sig .tc .vmem S512x2048 .f32 := Memref.whole cc0_scratch5
abbrev obM : Memref sig .tc .vmem S512x2048 .bf16 := Memref.whole cc0_scratch6
abbrev rsM : Memref sig .tc .vmem S7x512x512 .bf16 := Memref.whole cc0_scratch7
abbrev otM : Memref sig .tc .vmem S7x512x256 .bf16 := Memref.whole cc0_scratch8

abbrev wfCol (s : Dev nD) : Memref sig .tc .vmem S512x256 .bf16 := wfM.slice (colR s) (fun _ => rfl)
abbrev hbRow (s : Dev nD) : Memref sig .tc .vmem S512x512 .bf16 := hbM.slice (rowR s) (fun _ => rfl)
abbrev obCol (s : Dev nD) : Memref sig .tc .vmem S512x256 .bf16 := obM.slice (colR s) (fun _ => rfl)
abbrev oRow (s : Dev nD) : Memref sig .tc .vmem S512x256 .f32 := oM.slice (rowO s) (fun _ => rfl)
abbrev rsSlt (j : Fin 7) : Memref sig .tc .vmem S512x512 .bf16 := (rsM.slice (sltR j) (fun _ => rfl)).squeeze S512x512 squeezes_S1x512x512_S512x512
abbrev otSlt (j : Fin 7) : Memref sig .tc .vmem S512x256 .bf16 := (otM.slice (sltO j) (fun _ => rfl)).squeeze S512x256 squeezes_S1x512x256_S512x256

/-! ## The semaphores -/

abbrev barS : Sem sig := (SemArray.scalar (sig.barrier 0 rfl) : Sems sig S_).sem
abbrev exitS : Sem sig := cc0_scoped0.sem
/-- Array `n` of the six semaphore arrays (weight out/in, partial sums out/in, results out/in), entry `j`. -/
def dsem (n : Fin 6) (j : Fin 7) : DmaSem sig := ⟨4 + 7 * n.val + j.val, by have := n.isLt; have := j.isLt; show _ < 46; omega⟩

/-- The names of a device's semaphores: the entry barrier, the exit semaphore, the six arrays. -/
abbrev CK : Type := Fin 2 ⊕ Fin 6 × Fin 7
def sigS : Fin 2 → Sem sig
  | 0 => barS
  | 1 => exitS
def csem : CK → SemLoc sig
  | .inl a => .reg (sigS a)
  | .inr (n, j) => .dma (dsem n j)
abbrev kcell (ck : Dev nD × CK) : GSem nD τ sig := ((ck.1 : Thread nD τ), csem ck.2)

theorem csem_inj : Function.Injective csem := by
  intro a b h
  rcases a with a | ⟨n, j⟩ <;> rcases b with b | ⟨n', j'⟩
  · exact congrArg Sum.inl ((by decide : Function.Injective sigS) (by simpa [csem] using h))
  · exact absurd h (by simp [csem])
  · exact absurd h (by simp [csem])
  · have h1 : dsem n j = dsem n' j' := by simpa [csem] using h
    have h2 := congrArg Fin.val h1
    have := n.isLt; have := n'.isLt; have := j.isLt; have := j'.isLt
    simp only [dsem] at h2
    have e1 : n = n' := Fin.ext (by omega)
    have e2 : j = j' := Fin.ext (by omega)
    rw [e1, e2]

theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

open Classical in
/-- The name of a semaphore, if it is one of the protocol's. -/
def nameOf (sm : SemLoc sig) : Option CK := if h : ∃ k, csem k = sm then some h.choose else none

theorem nameOf_csem (k : CK) : nameOf (csem k) = some k := by
  have h : ∃ k', csem k' = csem k := ⟨k, rfl⟩
  unfold nameOf
  rw [dif_pos h, csem_inj h.choose_spec]

theorem nameOf_none {sm : SemLoc sig} (h : ∀ k, csem k ≠ sm) : nameOf sm = none := by
  unfold nameOf
  rw [dif_neg (fun ⟨k, hk⟩ => h k hk)]

/-- What a transfer of a 512×256 block, and of a 512×512 block, counts on its semaphores. -/
abbrev NW : ℕ := wbM.view.dmaCredit
abbrev NR : ℕ := (hbRow 0).view.dmaCredit
theorem NW_pos : 0 < NW := View.dmaCredit_pos _ (by decide)
theorem NR_pos : 0 < NR := View.dmaCredit_pos _ (by decide)

def amtD (n : Fin 6) : ℕ := if n = 2 ∨ n = 3 then NR else NW
def amtK : CK → ℕ
  | .inl _ => 1
  | .inr (n, _) => amtD n
theorem amtD_pos (n : Fin 6) : 0 < amtD n := by unfold amtD; split; exacts [NR_pos, NW_pos]
theorem amtK_pos (k : CK) : 0 < amtK k := by
  rcases k with a | ⟨n, j⟩
  · exact Nat.one_pos
  · exact amtD_pos n

/-! ## Contents -/

/-- The three operands of the kernel on every device. -/
structure Ins (F : FTy → Type) where
  x : Dev nD → Vec F S4096x512 .f32
  w : Dev nD → Vec F S512x512 .f32
  z : Dev nD → Vec F S512x256 .f32

/-- A block or a slot of an array, and a 512×n block as a slot with its leading axis of one. -/
def rows {α : Type} (f : S4096x512.Idx → α) (s : Dev nD) : S512x512.Idx → α := fun i => f ((rowR s).emb i)
def cols {α : Type} (f : S512x2048.Idx → α) (s : Dev nD) : S512x256.Idx → α := fun i => f ((colR s).emb i)
def lift1 {α : Type} (f : S512x512.Idx → α) : S1x512x512.Idx → α := fun y => f ((Shape.reshapeEquiv squeezes_S1x512x512_S512x512.numel_eq).symm y)
def lift2 {α : Type} (f : S512x256.Idx → α) : S1x512x256.Idx → α := fun y => f ((Shape.reshapeEquiv squeezes_S1x512x256_S512x256.numel_eq).symm y)

variable (I : Ins F)

/-- The narrowed second weight, the partial product and its narrowing, on device `c`. -/
def wbV (c : Dev nD) : Vec F S512x256 .bf16 := k0_pay1 (I.z c)
def hV (c : Dev nD) : Vec F S4096x512 .f32 := k0_pay3 (I.x c) (I.w c)
def hbV (c : Dev nD) : Vec F S4096x512 .bf16 := k0_pay4 (hV I c)
/-- What lands in slot `j` of device `c`'s landing buffer for partial sums. -/
def rsV (c : Dev nD) (j : Fin 7) : Vec F S512x512 .bf16 := rows (hbV I (peer c j)) c
/-- The sum, the gathered weight, the result and its narrowing. -/
def hcV (c : Dev nD) : Vec F S512x512 .bf16 :=
  k0_pay7 (k0_pay6 (k0_pay5 (rows (hV I c) c) (lift1 (rsV I c 6)) (lift1 (rsV I c 5)) (lift1 (rsV I c 4)))
    (lift1 (rsV I c 3)) (lift1 (rsV I c 2)) (lift1 (rsV I c 1))) (lift1 (rsV I c 0))
set_option backward.proofsInPublic true in
def wfV : Vec F S512x2048 .bf16 := fun i =>
  wbV I ⟨(i 1).val / 256, by have : (i 1).val < 2048 := (i 1).isLt; show _ < 8; omega⟩
    (fun a => match a with | 0 => ⟨(i 0).val, (i 0).isLt⟩ | 1 => ⟨(i 1).val % 256, Nat.mod_lt _ (by decide)⟩)
def ocV (c : Dev nD) : Vec F S512x2048 .f32 := k0_pay8 (hcV I c) (wfV I)
def obV (c : Dev nD) : Vec F S512x2048 .bf16 := k0_pay9 (ocV I c)
def otV (c : Dev nD) (j : Fin 7) : Vec F S512x256 .bf16 := cols (obV I (peer c j)) c
/-- Row block `s` of the result on device `c`. -/
def outB (c s : Dev nD) : Vec F S512x256 .f32 := if s = c then cols (ocV I c) c else k0_pay10 (lift2 (cols (obV I s) c))
set_option backward.proofsInPublic true in
def outV (c : Dev nD) : Vec F S4096x256 .f32 := fun i =>
  outB I c ⟨(i 0).val / 512, by have : (i 0).val < 4096 := (i 0).isLt; show _ < 8; omega⟩
    (fun a => match a with | 0 => ⟨(i 0).val % 512, Nat.mod_lt _ (by decide)⟩ | 1 => ⟨(i 1).val, (i 1).isLt⟩)

theorem rows_apply {α : Type} (f : S4096x512.Idx → α) (s : Dev nD) (i) : rows f s i = f ((rowR s).emb i) := rfl

theorem cols_wfV (s : Dev nD) : cols (wfV I) s = wbV I s := by
  funext i
  unfold cols wfV
  have h0 := (i 0).isLt
  have h1 : (i 1).val < 256 := (i 1).isLt
  have e1 : (((colR s).emb i) 1).val = 256 * s.val + (i 1).val := by rw [Rect.emb_apply]; simp [Rect.unit]
  have e0 : (((colR s).emb i) 0).val = (i 0).val := by rw [Rect.emb_apply]; simp [Rect.unit]
  have hs : (⟨(((colR s).emb i) 1).val / 256, by rw [e1]; have hs8 : s.val < 8 := s.isLt; show _ < 8; omega⟩ : Dev nD) = s := Fin.ext (by show _ / 256 = _; rw [e1]; omega)
  rw [hs]
  congr 1
  funext a
  fin_cases a
  · exact Fin.ext e0
  · exact Fin.ext (by show (((colR s).emb i) 1).val % 256 = (i 1).val; rw [e1]; omega)

theorem outV_rows (c s : Dev nD) : (fun i => outV I c ((rowO s).emb i)) = outB I c s := by
  funext i
  unfold outV
  have h0 : (i 0).val < 512 := (i 0).isLt
  have e0 : (((rowO s).emb i) 0).val = 512 * s.val + (i 0).val := by rw [Rect.emb_apply]; simp [Rect.unit]
  have e1 : (((rowO s).emb i) 1).val = (i 1).val := by rw [Rect.emb_apply]; simp [Rect.unit]
  have hs : (⟨(((rowO s).emb i) 0).val / 512, by rw [e0]; have hs8 : s.val < 8 := s.isLt; show _ < 8; omega⟩ : Dev nD) = s := Fin.ext (by show _ / 512 = _; rw [e0]; omega)
  rw [hs]
  congr 1
  funext a
  fin_cases a
  · exact Fin.ext (by show (((rowO s).emb i) 0).val % 512 = (i 0).val; rw [e0]; omega)
  · exact Fin.ext e1

/-! ## What the arrivals carry -/

/-- Three places of device `p` that its partner number `t` will write. -/
def Land (p : Dev nD) (t : Fin 7) : sProp 𝕄 :=
  iprop((∃ Y, owns (p : Thread nD τ) (wfCol (peer p t)) fullShare Y) ∗ (∃ Y, owns (p : Thread nD τ) (rsSlt t) fullShare Y)
    ∗ (∃ Y, owns (p : Thread nD τ) (otSlt t) fullShare Y))

/-- What comes with the completion on entry `j` of semaphore array `n` of device `c`. -/
def dpay (n : Fin 6) (j : Fin 7) (c : Dev nD) : sProp 𝕄 :=
  match n with
  | 0 => owns (c : Thread nD τ) wbM (Transfers.shareTok fullShare 7 j) (wbV I c)
  | 1 => owns (c : Thread nD τ) (wfCol (peer c j)) fullShare (wbV I (peer c j))
  | 2 => owns (c : Thread nD τ) (hbRow (peer c j)) fullShare (rows (hbV I c) (peer c j))
  | 3 => owns (c : Thread nD τ) (rsSlt j) fullShare (rsV I c j)
  | 4 => owns (c : Thread nD τ) (obCol (peer c j)) fullShare (cols (obV I c) (peer c j))
  | 5 => owns (c : Thread nD τ) (otSlt j) fullShare (otV I c j)

def payK (k : CK) (c : Dev nD) (d : Fin 7) : sProp 𝕄 :=
  match k with
  | .inl 0 => Land (peer c d) (rv d)
  | .inl 1 => iprop(emp)
  | .inr (n, j) => dpay I n j c

instance Land_storable (p : Dev nD) (t : Fin 7) : BI.Storable (upEmb : UEmb _ 𝕄) (Land (F := F) p t) := by unfold Land; infer_instance
instance dpay_storable (n : Fin 6) (j : Fin 7) (c : Dev nD) : BI.Storable (upEmb : UEmb _ 𝕄) (dpay I n j c) := by
  unfold dpay; split <;> infer_instance
instance payK_storable (k : CK) (c : Dev nD) (d : Fin 7) : BI.Storable (upEmb : UEmb _ 𝕄) (payK I k c d) := by
  unfold payK; split <;> infer_instance

def dutK : CK → Finset (Fin 7)
  | .inl _ => Finset.univ
  | .inr _ => {0}

/-- One round: seven duties of one unit on the barrier and on the exit semaphore, one duty on every transfer's end. -/
def Rd : Rounds.Schedule (GSem nD τ sig) (Fin 7) 𝕄 where
  duties g r := if r = 0 ∧ g.1.2 = .tc then (match nameOf g.2 with | some k => dutK k | none => ∅) else ∅
  unitless _ := False
  amount g _ _ := match nameOf g.2 with | some k => amtK k | none => 1
  payload g _ d := match nameOf g.2 with | some k => payK I k g.1.1 d | none => iprop(emp)
  amount_pos g _ _ _ := by split; exacts [amtK_pos _, Nat.one_pos]

instance Rd_storable (g : GSem nD τ sig) (r : ℕ) (d : Fin 7) : BI.Storable (upEmb : UEmb _ 𝕄) ((Rd I).payload g r d) := by
  show BI.Storable upEmb (match nameOf g.2 with | some k => payK I k g.1.1 d | none => iprop(emp))
  split <;> infer_instance

theorem duties_cell (c : Dev nD) (k : CK) : (Rd I).duties (kcell (c, k)) 0 = dutK k := by
  dsimp only [Rd]; rw [if_pos ⟨rfl, rfl⟩, nameOf_csem]
theorem duties_after (g : GSem nD τ sig) : ∀ r, 1 ≤ r → (Rd I).duties g r = ∅ := fun r hr => by
  dsimp only [Rd]; rw [if_neg fun h => by omega]
theorem amount_cell (c : Dev nD) (k : CK) (d : Fin 7) : (Rd I).amount (kcell (c, k)) 0 d = amtK k := by
  dsimp only [Rd]; rw [nameOf_csem]
theorem payload_cell (c : Dev nD) (k : CK) (d : Fin 7) : (Rd I).payload (kcell (c, k)) 0 d = payK I k c d := by
  dsimp only [Rd]; rw [nameOf_csem]
/-- What a wait for the whole round takes. -/
def expK : CK → ℕ
  | .inl _ => 7
  | .inr (n, _) => amtD n
theorem expect_cell (c : Dev nD) (k : CK) : (Rd I).expect (kcell (c, k)) 0 = expK k := by
  unfold Schedule.expect Schedule.amountOf
  rw [duties_cell, Finset.sum_congr rfl fun d _ => amount_cell I c k d, Finset.sum_const]
  rcases k with a | ⟨n, j⟩
  · rfl
  · show (Finset.card {0}) • amtD n = amtD n
    rw [Finset.card_singleton, one_smul]
theorem rest_cell (c : Dev nD) (k : CK) :
    bigSep ((Rd I).duties (kcell (c, k)) 0 \ ∅) (fun d => (Rd I).payload (kcell (c, k)) 0 d) = bigSep (dutK k) (fun d => payK I k c d) := by
  rw [Finset.sdiff_empty, duties_cell]
  exact congrArg _ (funext fun d => payload_cell I c k d)

/-! ## What is owed, in the order it is paid -/

/-- Payment number 7 p + t of a device: to partner `t`, on the semaphore `payTo`, under the duty `payDuty`. -/
abbrev PT : Type := Fin 5 × Fin 7
def payTo : PT → CK
  | (0, _) => .inl 0
  | (1, t) => .inr (1, rv t)
  | (2, t) => .inr (3, rv t)
  | (3, t) => .inr (5, rv t)
  | (4, _) => .inl 1
def payDuty : PT → Fin 7
  | (0, t) => rv t
  | (1, _) => 0
  | (2, _) => 0
  | (3, _) => 0
  | (4, t) => rv t
abbrev num (x : PT) : ℕ := 7 * x.1.val + x.2.val
def due (c : Dev nD) (x : PT) : CellTallies nD τ sig Unit := tallyAt (kcell (peer c x.2, payTo x)) () (amtK (payTo x))
/-- What is still owed when the first `k` payments are made. -/
def owedFrom (c : Dev nD) (k : ℕ) : CellTallies nD τ sig Unit := ∑ x ∈ Finset.univ.filter (fun x : PT => k ≤ num x), due c x

theorem num_inj {x y : PT} (h : num x = num y) : x = y := by
  obtain ⟨p, t⟩ := x; obtain ⟨p', t'⟩ := y
  have h : 7 * p.val + t.val = 7 * p'.val + t'.val := h
  have := t.isLt; have := t'.isLt
  have e1 : p = p' := Fin.ext (by omega)
  have e2 : t = t' := Fin.ext (by omega)
  rw [e1, e2]

theorem owedFrom_step (c : Dev nD) (x : PT) : owedFrom c (num x) = owedFrom c (num x + 1) + due c x := by
  have h : Finset.univ.filter (fun y : PT => num x ≤ num y) = insert x (Finset.univ.filter (fun y : PT => num x + 1 ≤ num y)) := by
    ext y
    simp only [Finset.mem_filter, Finset.mem_univ, true_and, Finset.mem_insert]
    constructor
    · intro h
      by_cases e : num x = num y
      · exact .inl (num_inj e).symm
      · exact .inr (by omega)
    · rintro (rfl | h)
      · exact le_rfl
      · omega
  unfold owedFrom
  rw [h, Finset.sum_insert (by simp), add_comm]

theorem owedFrom_end (c : Dev nD) : owedFrom c 35 = 0 := by
  unfold owedFrom
  rw [Finset.filter_false_of_mem, Finset.sum_empty]
  rintro ⟨p, t⟩ -
  have := p.isLt; have := t.isLt
  show ¬ 35 ≤ 7 * p.val + t.val
  omega

/-- Where something is owed. -/
theorem owedFrom_pos {c : Dev nD} {k : ℕ} {g : GSem nD τ sig} {u : Unit} (h : 0 < owedFrom c k g u) :
    ∃ x : PT, k ≤ num x ∧ g = kcell (peer c x.2, payTo x) := by
  by_contra hn
  refine (Nat.not_lt.mpr (le_of_eq ?_)) h
  unfold owedFrom
  rw [Finset.sum_apply, Finsupp.finset_sum_apply]
  refine Finset.sum_eq_zero fun x hx => ?_
  unfold due
  rw [tallyAt_apply, if_neg]
  rintro ⟨rfl, -⟩
  exact hn ⟨x, (Finset.mem_filter.mp hx).2, rfl⟩

/-- The height of a semaphore: a device waits only below everything it still owes. -/
def lvK : CK → ℕ
  | .inl 0 => 1
  | .inl 1 => 4
  | .inr (1, _) => 2
  | .inr (3, _) => 2
  | .inr (5, _) => 3
  | .inr _ => 0
def L (g : GSem nD τ sig) : Finset Unit := if g.1.2 = .tc then {()} else ∅
def lv (g : GSem nD τ sig) (_ : Unit) : ℕ := match nameOf g.2 with | some k => lvK k | none => 0
theorem L_tc (c : Dev nD) (sm : SemLoc sig) : L ((c : Thread nD τ), sm) = {()} := if_pos rfl
theorem L_of_ne (g : GSem nD τ sig) (h : g.1.2 ≠ .tc) : L g = ∅ := if_neg h
theorem lv_cell (c : Dev nD) (k : CK) (u : Unit) : lv (kcell (c, k)) u = lvK k := by
  unfold lv; rw [nameOf_csem]

/-- A wait at height `n` below every payment still to make. -/
theorem mayWait (c : Dev nD) (sm : SemLoc sig) (n k : ℕ) (hn : lv ((c : Thread nD τ), sm) () ≤ n) (h : ∀ x : PT, k ≤ num x → n < lvK (payTo x)) :
    (levAts L lv : sProp 𝕄) ⊢ MayWait (c : Thread nD τ) sm () (owedFrom c k) :=
  MayOwe.of_cut (L := L) (lev := lv) n (fun p hp => by rw [Finset.mem_singleton.mp hp, L_tc]; exact Finset.mem_singleton_self _)
    (fun g u hg => by obtain ⟨x, -, rfl⟩ := owedFrom_pos hg; exact Finset.mem_singleton_self _)
    (fun p hp => by rw [Finset.mem_singleton.mp hp]; exact hn)
    (fun g u hg => by obtain ⟨x, hx, rfl⟩ := owedFrom_pos hg; rw [lv_cell]; exact h x hx)

theorem mayWait_cell (c : Dev nD) (j : CK) (k : ℕ) (h : ∀ x : PT, k ≤ num x → lvK j < lvK (payTo x)) :
    (levAts L lv : sProp 𝕄) ⊢ MayWait (c : Thread nD τ) (csem j) () (owedFrom c k) :=
  mayWait c (csem j) (lvK j) k (le_of_eq (lv_cell c j ())) h

end Cert.KernelIdealRun

end
-- ==== Proof.KernelIdealSteps.lean ====
/-
One lemma for each kind of operation the kernel performs: a signal, a remote transfer, a wait, a load and a store of a
block.  Each is stated once, for a symbolic device and a symbolic partner number.
-/
module

public import proofs.«01_k».proof.Proof.KernelIdealProto

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (I : Ins F) (K : Dev nD × CK → ℕ) (c : Dev nD)

/-! ## Families over the partner numbers, from number `k` on and below number `k` -/

section Fam
variable {M : Type} [URA M] (Φ : Fin 7 → sProp M)

def rem (k : ℕ) : sProp M := bigSep (Finset.univ.filter fun t : Fin 7 => k ≤ t.val) Φ
def don (k : ℕ) : sProp M := bigSep (Finset.univ.filter fun t : Fin 7 => t.val < k) Φ

theorem rem_step (t : Fin 7) : rem Φ t.val = iprop(Φ t ∗ rem Φ (t.val + 1)) := by
  have h : (Finset.univ.filter fun u : Fin 7 => t.val ≤ u.val) = insert t (Finset.univ.filter fun u : Fin 7 => t.val + 1 ≤ u.val) := by
    ext u
    simp only [Finset.mem_filter, Finset.mem_univ, true_and, Finset.mem_insert]
    constructor
    · intro h
      by_cases e : t.val = u.val
      · exact .inl (Fin.ext e.symm)
      · exact .inr (by omega)
    · rintro (rfl | h) <;> omega
  unfold rem
  rw [h, bigSep_insert (by simp)]
  rfl
theorem don_step (t : Fin 7) : don Φ (t.val + 1) = iprop(Φ t ∗ don Φ t.val) := by
  have h : (Finset.univ.filter fun u : Fin 7 => u.val < t.val + 1) = insert t (Finset.univ.filter fun u : Fin 7 => u.val < t.val) := by
    ext u
    simp only [Finset.mem_filter, Finset.mem_univ, true_and, Finset.mem_insert]
    constructor
    · intro h
      by_cases e : u.val = t.val
      · exact .inl (Fin.ext e)
      · exact .inr (by omega)
    · rintro (rfl | h) <;> omega
  unfold don
  rw [h, bigSep_insert (by simp)]
  rfl
theorem rem_all : rem Φ 0 = bigSep Finset.univ Φ := by unfold rem; simp
theorem don_all : don Φ 7 = bigSep Finset.univ Φ := by
  unfold don; rw [Finset.filter_true_of_mem fun t _ => t.isLt]
theorem rem_none : rem Φ 7 = iprop(emp) := by
  unfold rem; rw [Finset.filter_false_of_mem fun t _ => by have := t.isLt; omega, bigSep_empty]; rfl
theorem don_none : don Φ 0 = iprop(emp) := by
  unfold don; rw [Finset.filter_false_of_mem fun t _ => by omega, bigSep_empty]; rfl

/-- A family over the devices: device `c`, and the partners of `c`. -/
theorem bigSep_peers (Ψ : Dev nD → sProp M) (c : Dev nD) :
    bigSep Finset.univ Ψ = iprop(Ψ c ∗ bigSep Finset.univ fun t : Fin 7 => Ψ (peer c t)) := by
  rw [univ_eq_peers c, bigSep_insert (by
    intro h
    obtain ⟨t, -, e⟩ := Finset.mem_image.mp h
    exact peer_ne c t e)]
  have e : Finset.univ.image (peer c) = Finset.univ.map ⟨peer c, fun t t' h => peer_inj c t t' h⟩ := by
    ext; simp only [Finset.mem_image, Finset.mem_map]; rfl
  rw [e, bigSep_map]
  rfl
/-- A family over the partner numbers, counted from the other end. -/
theorem bigSep_rv : bigSep Finset.univ (fun t => Φ (rv t)) = bigSep Finset.univ Φ :=
  (bigSep_univ_equiv Fin.revPerm Φ).symm
end Fam

/-! ## What every device may use at any time -/

/-- Every semaphore's invariant and the start of its round, and the heights. -/
def recs : sProp 𝕄 :=
  iprop((bigSep Finset.univ fun ck => cellInv ER (Rd I) (K ck) (kcell ck)) ∗ (bigSep Finset.univ fun ck : Dev nD × CK => reached ER (kcell ck) 0)
    ∗ levAts L lv)
instance recs_persistent : BI.Persistent (recs I K) := by unfold recs; infer_instance

theorem inv_at (ck : Dev nD × CK) : (bigSep Finset.univ fun ck => (cellInv ER (Rd I) (K ck) (kcell ck) : sProp 𝕄)) ⊢ cellInv ER (Rd I) (K ck) (kcell ck) :=
  bigSep_elim (Finset.mem_univ ck)
theorem reached_at (ck : Dev nD × CK) : (bigSep Finset.univ fun ck : Dev nD × CK => (reached ER (kcell ck) 0 : sProp 𝕄)) ⊢ reached ER (kcell ck) 0 :=
  bigSep_elim (Finset.mem_univ ck)
theorem recs_inv (ck : Dev nD × CK) : recs I K ⊢ cellInv ER (Rd I) (K ck) (kcell ck) := by
  unfold recs
  iintro ⟨H, -⟩
  iapply (inv_at I K ck); iexact H
theorem recs_reached (ck : Dev nD × CK) : recs I K ⊢ reached ER (kcell ck) 0 := by
  unfold recs
  iintro ⟨-, H, -⟩
  iapply (reached_at ck); iexact H
theorem recs_lev : recs I K ⊢ levAts L lv := by
  unfold recs
  iintro ⟨-, -, H⟩
  iexact H

/-- What device `c` owes after `k` payments, and the right to make payment `x`. -/
def Ow (k : ℕ) : sProp 𝕄 := iprop(∃ W, owes (c : Thread nD τ) (owedFrom c k) W)
def tok (x : PT) : sProp 𝕄 := dutyTok ER (kcell (peer c x.2, payTo x)) 0 (payDuty x)
/-- The right to the one payment of a semaphore on which a transfer of `c`'s own leaves. -/
def stok (n : Fin 6) (t : Fin 7) : sProp 𝕄 := dutyTok ER (kcell (c, .inr (n, t))) 0 0
/-- The credit to wait for a semaphore's round, and the place of its owner before and after that wait. -/
def crd (k : CK) : sProp 𝕄 := cred (tallyAt (kcell (c, k)) () (expK k))
def pos0 (k : CK) : sProp 𝕄 := atPos ER (kcell (c, k)) 0 ∅ 0
def pos1 (k : CK) : sProp 𝕄 := atPos ER (kcell (c, k)) (0 + 1) ∅ 0

abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)}

/-! ## Signals and waits -/

/-- A signal on the barrier (`a = 0`) or on the exit semaphore (`a = 1`) of a partner. -/
theorem step_sig (a : Fin 2) (x : PT) (hx : payTo x = .inl a) {sem : Sem sig} (hs : sem = sigS a) {p : Dev nD} (hp : p = peer c x.2)
    {u : ℕ} (hu : u = 1) {k : PUnit → Prog (TpuEff nD τ sig (Elt F) Λ₀ .tc) α} :
    iprop(recs I K ∗ Ow c (num x) ∗ tok c x ∗ payK I (payTo x) (peer c x.2) (payDuty x))
      ⊢ iprop((Ow c (num x + 1) -∗ WP c (k ⟨⟩) Q) -∗ WP c (.op (.semSignal (Dev.tc p : Thread nD τ) sem u) k) Q) := by
  subst hs; subst hp; subst hu
  have hcell : kcell (peer c x.2, payTo x) = ((peer c x.2 : Thread nD τ), SemLoc.reg (sigS a)) := by rw [hx]; rfl
  unfold Ow tok
  iintro ⟨#HR, ⟨%W, HO⟩, Ht, Hp⟩ Hk
  iapply (Rounds.wp_signal 𝒱₀ ER (Rd I) (c : Thread nD τ) none (dst := (peer c x.2 : Thread nD τ)) (sem := sigS a) (r := 0) (κ := K (peer c x.2, payTo x))
      (d := payDuty x) (k' := 1) (O₀ := owedFrom c (num x)) (W := W)
      (by rw [← hcell, duties_cell, hx]; exact Finset.mem_univ _)
      (by rw [← hcell, amount_cell, hx]; rfl) () (owedFrom c (num x + 1))
      (by rw [owedFrom_step c x]; unfold due; rw [hcell, hx]; rfl)) $$ [HO Ht Hp]
  · rw [← hcell]
    isplitr; · iapply (recs_inv I K (peer c x.2, payTo x)); iexact HR
    isplitl [HO]; · iexact HO
    isplitl [Ht]; · iexact Ht
    isplitl [Hp]; · rw [payload_cell]; iexact Hp
    iapply (recs_reached I K (peer c x.2, payTo x)); iexact HR
  iintro HO
  iapply Hk
  iexists W
  iexact HO

/-- A wait for a whole round: on the barrier or on the exit semaphore. -/
theorem step_waitS (a : Fin 2) (n : ℕ) (hn : ∀ x : PT, n ≤ num x → lvK (.inl a) < lvK (payTo x)) {sem : Sem sig} (hs : sem = sigS a)
    {u : ℕ} (hu : u = 7) {k : PUnit → Prog (TpuEff nD τ sig (Elt F) Λ₀ .tc) α} :
    iprop(recs I K ∗ Ow c n ∗ crd c (.inl a) ∗ pos0 c (.inl a))
      ⊢ iprop(((Ow c n ∗ pos1 c (.inl a) ∗ bigSep Finset.univ (fun d => payK I (.inl a) c d)) -∗ WP c (k ⟨⟩) Q)
          -∗ WP c (.op (.semWait sem u) k) Q) := by
  subst hs; subst hu
  unfold Ow crd pos0 pos1
  iintro ⟨#HR, ⟨%W, HO⟩, Hc, Hat⟩ Hk
  iapply (Rounds.wp_wait_rest_token 𝒱₀ ER (Rd I) (c : Thread nD τ) none (sm := .reg (sigS a)) (κ := K (c, .inl a))
      (wpE_semWait_eq 𝒱₀ (c : Thread nD τ) none Set.univ) (Set.mem_univ _) () (O := owedFrom c n) (W := W) (R := 0) (m := 0) (T := ∅)
      (by rw [Nat.zero_add]; exact (expect_cell I c (.inl a)).symm)) $$ [HO Hc Hat]
  · isplitr; · iapply (recs_inv I K (c, .inl a)); iexact HR
    isplitl [Hc]; · iexact Hc
    isplitl [HO]; · iexact HO
    isplitr; · iapply (mayWait_cell c (.inl a) n hn); iapply (recs_lev I K); iexact HR
    iexact Hat
  iintro ⟨HO, Hat, -, Hp⟩
  iapply Hk
  isplitl [HO]; · iexists _; iexact HO
  isplitl [Hat]; · iexact Hat
  iapply (Entails.of_eq (rest_cell I c (.inl a))); iexact Hp

theorem rest_dma (m : Fin 6) (j : Fin 7) :
    bigSep ((Rd I).duties ((c : Thread nD τ), SemLoc.dma (dsem m j)) 0 \ ∅) ((Rd I).payload ((c : Thread nD τ), SemLoc.dma (dsem m j)) 0) = dpay I m j c :=
  (rest_cell I c (.inr (m, j))).trans (by rw [show dutK (.inr (m, j)) = {0} from rfl, bigSep_singleton]; rfl)

/-- A wait for a transfer's end on entry `j` of semaphore array `m`. -/
theorem step_wait (m : Fin 6) (j : Fin 7) (n : ℕ) (hn : ∀ x : PT, n ≤ num x → lvK (.inr (m, j)) < lvK (payTo x))
    {sp sp' : Space} {s s' : Shape} {e e' : EltTy} {src : Memref sig .tc sp s e} {dst : Memref sig .tc sp' s' e'}
    {sem : DmaSem sig} (hs : sem = dsem m j) (hd : dst.view.dmaCredit = amtD m)
    {hsrc : src.view.WordExact} {hdst : dst.view.WordExact} {k : PUnit → Prog (TpuEff nD τ sig (Elt F) Λ₀ .tc) α} :
    iprop(recs I K ∗ Ow c n ∗ crd c (.inr (m, j)) ∗ pos0 c (.inr (m, j)))
      ⊢ iprop(((Ow c n ∗ pos1 c (.inr (m, j)) ∗ dpay I m j c) -∗ WP c (k ⟨⟩) Q)
          -∗ WP c (.op (.waitDma2 sem src dst hsrc hdst) k) Q) := by
  subst hs
  unfold Ow crd pos0 pos1
  iintro ⟨#HR, ⟨%W, HO⟩, Hc, Hat⟩ Hk
  iapply (Rounds.wp_wait_rest_token 𝒱₀ ER (Rd I) (c : Thread nD τ) none (sm := .dma (dsem m j)) (κ := K (c, .inr (m, j)))
      (wpE_waitDma2_eq 𝒱₀ (c : Thread nD τ) none Set.univ) (Set.mem_univ _) () (O := owedFrom c n) (W := W) (R := 0) (m := 0) (T := ∅)
      (by rw [Nat.zero_add, hd]; exact (expect_cell I c (.inr (m, j))).symm)) $$ [HO Hc Hat]
  · isplitr; · iapply (recs_inv I K (c, .inr (m, j))); iexact HR
    isplitl [Hc]; · rw [hd]; iexact Hc
    isplitl [HO]; · iexact HO
    isplitr; · iapply (mayWait_cell c (.inr (m, j)) n hn); iapply (recs_lev I K); iexact HR
    iexact Hat
  iintro ⟨HO, Hat, -, Hp⟩
  iapply Hk
  isplitl [HO]; · iexists _; iexact HO
  isplitl [Hat]; · iexact Hat
  iapply (Entails.of_eq (rest_dma I c m j)); iexact Hp

/-! ## Remote transfers -/

/-- A transfer to a partner: leaving on entry `t` of semaphore array `m`, arriving on the partner's entry of array `m'`. -/
theorem step_send (m m' : Fin 6) (x : PT) (hx : payTo x = .inr (m', rv x.2)) (hx0 : payDuty x = 0) (hmm : amtD m = amtD m')
    {s : Shape} {src dst src₀ dst₀ : Memref sig .tc .vmem s .bf16} (es : src = src₀) (ed : dst = dst₀) {sS sR : DmaSem sig} (hS : sS = dsem m x.2) (hR : sR = dsem m' (rv x.2))
    {p : Dev nD} (hp : p = peer c x.2) (hd : dst₀.view.dmaCredit = amtD m)
    {hsc : dst.view.ref.isScScratch = false} {hsrc : src.view.WordExact} {hdst : dst.view.WordExact}
    {hsem : DmaTarget.Typed .vmem (.dma sR) (.remote (Dev.tc p : Thread nD τ) dst (.dma sS) hsc)}
    (q : PosShare TreeShare) (X : s.Idx → Elt F .bf16)
    (h1 : owns (c : Thread nD τ) src₀ q X ⊢ dpay I m x.2 c)
    (h2 : owns (peer c x.2 : Thread nD τ) dst₀ fullShare X ⊢ dpay I m' (rv x.2) (peer c x.2))
    {k : PUnit → Prog (TpuEff nD τ sig (Elt F) Λ₀ .tc) α} :
    iprop(recs I K ∗ Ow c (num x) ∗ owns (c : Thread nD τ) src₀ q X ∗ (∃ Y, owns (peer c x.2 : Thread nD τ) dst₀ fullShare Y) ∗ stok c m x.2 ∗ tok c x)
      ⊢ iprop(((Ow c (num x + 1) ∗ crd c (.inr (m, x.2))) -∗ WP c (k ⟨⟩) Q)
          -∗ WP c (.op (.enqueueDma src (.remote (Dev.tc p : Thread nD τ) dst (.dma sS) hsc) (.dma sR) hsrc hdst hsem) k) Q) := by
  subst hS; subst hR; subst hp; subst es; subst ed
  have hcell : kcell (peer c x.2, payTo x) = ((peer c x.2 : Thread nD τ), SemLoc.dma (dsem m' (rv x.2))) := by rw [hx]; rfl
  unfold Ow tok stok crd
  iintro ⟨#HR, ⟨%W, HO⟩, Hs, ⟨%Y, Hd⟩, Hts, Htr⟩ Hk
  ihave Hs := (show owns (c : Thread nD τ) src q X ⊢ iprop(∃ g, ⌜src.view.read (Elt F) g = X⌝ ∗ src.view.loc (c : Thread nD τ) ↦[src.view.set]{q} g) from .rfl) $$ Hs
  icases Hs with ⟨%g, %hg, Hs⟩
  ihave Hd := (show owns (peer c x.2 : Thread nD τ) dst fullShare Y ⊢ iprop(∃ g, ⌜dst.view.read (Elt F) g = Y⌝ ∗ dst.view.loc (peer c x.2 : Thread nD τ) ↦[dst.view.set]{fullShare} g) from .rfl) $$ Hd
  icases Hd with ⟨%gd, %hgd, Hd⟩
  iapply (Rounds.wp_send_pointsTo 𝒱₀ ER (Rd I) (c : Thread nD τ) none (κ₁ := K (c, .inr (m, x.2))) (κ₂ := K (peer c x.2, payTo x))
    (c' := (peer c x.2 : Thread nD τ)) (src := src) (dst := dst) (sS := .dma (dsem m x.2)) (sem := .dma (dsem m' (rv x.2)))
    (r₁ := 0) (r₂ := 0) (d₁ := 0) (d₂ := payDuty x) (fs := g) (fd := gd) (q := q) (O₀ := owedFrom c (num x))
    (by rw [show ((c : Thread nD τ), SemLoc.dma (dsem m x.2)) = kcell (c, .inr (m, x.2)) from rfl, duties_cell]; exact Finset.mem_singleton_self _)
    (by rw [← hcell, duties_cell, hx, hx0]; exact Finset.mem_singleton_self _)
    () () (amtD m) hd
    (by rw [show ((c : Thread nD τ), SemLoc.dma (dsem m x.2)) = kcell (c, .inr (m, x.2)) from rfl, amount_cell]; rfl)
    (by rw [← hcell, amount_cell, hx]; exact hmm.symm)
    (owedFrom c (num x + 1))
    (by rw [owedFrom_step c x]; unfold due; rw [hcell, hx, hmm]; rfl) (W := W)
    (by
      rw [show ((c : Thread nD τ), SemLoc.dma (dsem m x.2)) = kcell (c, .inr (m, x.2)) from rfl, payload_cell]
      refine .trans ?_ h1
      rw [← hg]
      exact owns_intro _ _ _ _)
    (by
      rw [← hcell, payload_cell, hx]
      refine .trans ?_ h2
      have e : X = dst.view.read (Elt F) (dst.view.write (Elt F) gd (src.view.read (Elt F) g) Finset.univ) := by rw [View.read_write_univ, hg]
      rw [e]
      exact owns_intro _ _ _ _)) $$ [HO Hs Hd Hts Htr]
  · rw [← hcell]
    isplitr; · iapply (recs_inv I K (c, .inr (m, x.2))); iexact HR
    isplitr; · iapply (recs_inv I K (peer c x.2, payTo x)); iexact HR
    isplitl [Hs]; · iexact Hs
    isplitl [Hd]; · iexact Hd
    isplitl [HO]; · iexact HO
    isplitl [Hts]; · iexact Hts
    isplitr; · iapply (recs_reached I K (c, .inr (m, x.2))); iexact HR
    isplitl [Htr]; · iexact Htr
    iapply (recs_reached I K (peer c x.2, payTo x)); iexact HR
  iintro ⟨Hc, HO⟩
  iapply Hk
  isplitl [HO]; · iexists W; iexact HO
  iexact Hc

/-! ## Loads and stores of a block held on its own -/

variable {sp : CoreSpace} {s : Shape} {e : EltTy}

/-- A load, through a rectangle of a memref, of a part of what is owned of it. -/
theorem step_load_in (m : Memref sig .tc sp s e) (r : Rect s) (q : PosShare TreeShare) (X : s.Idx → Elt F e)
    {hl : m.view.LoadsAt r.toLoadRect} {k : (r.toLoadRect.shape.Idx → Elt F e) → Prog (TpuEff nD τ sig (Elt F) Λ₀ .tc) α} :
    owns (c : Thread nD τ) m q X
      ⊢ iprop((owns (c : Thread nD τ) m q X -∗ WP c (k fun i => X (r.emb i)) Q) -∗ WP c (.op (.load m r.toLoadRect hl) k) Q) := by
  iintro H Hk
  ihave H := (show owns (c : Thread nD τ) m q X ⊢ iprop(∃ g, ⌜m.view.read (Elt F) g = X⌝ ∗ m.view.loc (c : Thread nD τ) ↦[m.view.set]{q} g) from .rfl) $$ H
  icases H with ⟨%g, %hg, H⟩
  subst hg
  iapply (wp_load 𝒱₀ (c : Thread nD τ) none Set.univ (m := m) (r := r.toLoadRect) (S := m.view.set) (q := q) (f := g)
    (Finset.map_subset_map.mpr (Finset.subset_univ _))) $$ H
  iintro H
  iapply Hk
  iapply (owns_intro _ _ _ _); iexact H

variable {off off' size : Fin s.rank → ℕ} (h : off = off') {inb : ∀ a, off a + size a ≤ s.size a} {inb' : ∀ a, off' a + size a ≤ s.size a}
include h

/-- A load of a block held on its own, at an offset known to be the block's. -/
theorem step_load (m : Memref sig .tc sp s e) (q : PosShare TreeShare) (X : (⟨s.rank, size⟩ : Shape).Idx → Elt F e)
    {hl : m.view.LoadsAt (Rect.unit off size inb).toLoadRect}
    {k : ((⟨s.rank, size⟩ : Shape).Idx → Elt F e) → Prog (TpuEff nD τ sig (Elt F) Λ₀ .tc) α} :
    owns (c : Thread nD τ) (m.slice (Rect.unit off' size inb') (fun _ => rfl)) q X
      ⊢ iprop((owns (c : Thread nD τ) (m.slice (Rect.unit off' size inb') (fun _ => rfl)) q X -∗ WP c (k X) Q)
          -∗ WP c (.op (.load m (Rect.unit off size inb).toLoadRect hl) k) Q) := by
  subst h
  iintro H Hk
  ihave H := (show owns (c : Thread nD τ) (m.slice (Rect.unit off size inb) (fun _ => rfl)) q X
    ⊢ iprop(∃ g, ⌜(m.access (Rect.unit off size inb)).read (Elt F) g = X⌝ ∗ m.view.loc (c : Thread nD τ) ↦[(m.access (Rect.unit off size inb)).set]{q} g) from .rfl) $$ H
  icases H with ⟨%g, %hg, H⟩
  subst hg
  iapply (wp_load 𝒱₀ (c : Thread nD τ) none Set.univ (m := m) (r := (Rect.unit off size inb).toLoadRect) (S := (m.access (Rect.unit off size inb)).set) (q := q) (f := g)
    (by show _ ⊆ (m.view.slice (Rect.unit off size inb)).set; rw [View.set_slice]; exact subset_rfl)) $$ H
  iintro H
  iapply Hk
  iapply (owns_intro (c : Thread nD τ) (m.slice (Rect.unit off size inb) (fun _ => rfl)) q g); iexact H

theorem step_store (m : Memref sig .tc sp s e) (w : (⟨s.rank, size⟩ : Shape).Idx → Elt F e)
    {hx : (m.access (Rect.unit off size inb)).Stores Finset.univ} {hm : Finset.univ = Finset.univ ∨ ∀ a, (Rect.unit off size inb).stride a = 1}
    {k : PUnit → Prog (TpuEff nD τ sig (Elt F) Λ₀ .tc) α} :
    iprop(∃ X, owns (c : Thread nD τ) (m.slice (Rect.unit off' size inb') (fun _ => rfl)) fullShare X)
      ⊢ iprop((owns (c : Thread nD τ) (m.slice (Rect.unit off' size inb') (fun _ => rfl)) fullShare w -∗ WP c (k ⟨⟩) Q)
          -∗ WP c (.op (.store m (Rect.unit off size inb) w Finset.univ hx hm) k) Q) := by
  subst h
  iintro ⟨%X, H⟩ Hk
  ihave H := (show owns (c : Thread nD τ) (m.slice (Rect.unit off size inb) (fun _ => rfl)) fullShare X
    ⊢ iprop(∃ g, ⌜(m.access (Rect.unit off size inb)).read (Elt F) g = X⌝ ∗ m.view.loc (c : Thread nD τ) ↦[(m.access (Rect.unit off size inb)).set]{fullShare} g) from .rfl) $$ H
  icases H with ⟨%g, %hg, H⟩
  iapply (wp_store 𝒱₀ (c : Thread nD τ) none Set.univ (m := m) (r := Rect.unit off size inb) (w := w) (Mk := Finset.univ) (S := (m.access (Rect.unit off size inb)).set) (f := g)
    subset_rfl) $$ H
  iintro H
  iapply Hk
  have e1 : w = (m.access (Rect.unit off size inb)).read (Elt F) ((m.access (Rect.unit off size inb)).write (Elt F) g w Finset.univ) :=
    (View.read_write_univ (v := m.access (Rect.unit off size inb)) g w).symm
  have e2 : (m.view.loc (c : Thread nD τ) ↦[(m.access (Rect.unit off size inb)).set]{fullShare} (m.access (Rect.unit off size inb)).write (Elt F) g w Finset.univ : sProp 𝕄)
      ⊢ owns (c : Thread nD τ) (m.slice (Rect.unit off size inb) (fun _ => rfl)) fullShare w := by
    conv_rhs => rw [e1]
    exact owns_intro (c : Thread nD τ) (m.slice (Rect.unit off size inb) (fun _ => rfl)) fullShare _
  iapply e2; iexact H
omit h

/-! ## Loads and stores of a whole memref -/

/-- The slice of a memref through the whole of its shape is owned as the memref is. -/
theorem owns_whole_slice (m : Memref sig .tc sp s e) (inb : ∀ a, (fun _ => 0 : Fin s.rank → ℕ) a + s.size a ≤ s.size a) (q : PosShare TreeShare) (X : s.Idx → Elt F e) :
    (owns (c : Thread nD τ) (m.slice (Rect.unit (fun _ => 0) s.size inb) (fun _ => rfl)) q X : sProp 𝕄) = owns (c : Thread nD τ) m q X := by
  have he : ∀ i : s.Idx, (Rect.unit (s := s) (fun _ => 0) s.size inb).emb i = i := fun i => by
    funext a; apply Fin.ext; rw [Rect.emb_apply]; simp [Rect.unit]
  have hr (g : m.view.ty.Contents (Elt F)) : (m.slice (Rect.unit (fun _ => 0) s.size inb) (fun _ => rfl)).view.read (Elt F) g = m.view.read (Elt F) g := by
    funext i
    show m.view.read (Elt F) g ((Rect.unit (s := s) (fun _ => 0) s.size inb).emb i) = _
    rw [he]
  have hs : (m.view.slice (Rect.unit (s := s) (fun _ => 0) s.size inb)).set = m.view.set := by
    rw [View.set_slice]
    have : (Rect.unit (s := s) (fun _ => 0) s.size inb).set = Finset.univ := by
      rw [← Rect.map_emb_univ]
      ext i
      simp only [Finset.mem_map, Finset.mem_univ, true_and, iff_true]
      exact ⟨i, he i⟩
    rw [this]; rfl
  have hg (g : m.view.ty.Contents (Elt F)) :
      iprop(⌜(m.slice (Rect.unit (fun _ => 0) s.size inb) (fun _ => rfl)).view.read (Elt F) g = X⌝
          ∗ m.view.loc (c : Thread nD τ) ↦[(m.view.slice (Rect.unit (s := s) (fun _ => 0) s.size inb)).set]{q} g)
        = (iprop(⌜m.view.read (Elt F) g = X⌝ ∗ m.view.loc (c : Thread nD τ) ↦[m.view.set]{q} g) : sProp 𝕄) := by rw [hr, hs]
  exact congrArg BI.BIBase.exists (funext hg)

variable {off : Fin s.rank → ℕ} (hz : off = fun _ => 0) {inb : ∀ a, off a + s.size a ≤ s.size a}
include hz

theorem step_loadW (m : Memref sig .tc sp s e) (q : PosShare TreeShare) (X : s.Idx → Elt F e)
    {hl : m.view.LoadsAt (Rect.unit off s.size inb).toLoadRect} {k : (s.Idx → Elt F e) → Prog (TpuEff nD τ sig (Elt F) Λ₀ .tc) α} :
    owns (c : Thread nD τ) m q X
      ⊢ iprop((owns (c : Thread nD τ) m q X -∗ WP c (k X) Q) -∗ WP c (.op (.load m (Rect.unit off s.size inb).toLoadRect hl) k) Q) := by
  have h := step_load (F := F) (c := c) (Q := Q) hz (inb := inb) (inb' := fun a => by simp) m q X (hl := hl) (k := k)
  rw [owns_whole_slice] at h
  exact h

theorem step_storeW (m : Memref sig .tc sp s e) (w : s.Idx → Elt F e)
    {hx : (m.access (Rect.unit off s.size inb)).Stores Finset.univ} {hm : Finset.univ = Finset.univ ∨ ∀ a, (Rect.unit off s.size inb).stride a = 1}
    {k : PUnit → Prog (TpuEff nD τ sig (Elt F) Λ₀ .tc) α} :
    iprop(∃ X, owns (c : Thread nD τ) m fullShare X)
      ⊢ iprop((owns (c : Thread nD τ) m fullShare w -∗ WP c (k ⟨⟩) Q)
          -∗ WP c (.op (.store m (Rect.unit off s.size inb) w Finset.univ hx hm) k) Q) := by
  have h := step_store (F := F) (c := c) (Q := Q) hz (inb := inb) (inb' := fun a => by simp) m w (hx := hx) (hm := hm) (k := k)
  simp only [owns_whole_slice] at h
  exact h
omit hz

/-- A memref with its axes of extent one dropped is owned at the same elements, re-indexed. -/
theorem owns_squeeze (m : Memref sig .tc sp s e) (s' : Shape) (h : s.Squeezes s') (q : PosShare TreeShare) (X : s'.Idx → Elt F e) :
    (owns (c : Thread nD τ) (m.squeeze s' h) q X : sProp 𝕄)
      = owns (c : Thread nD τ) m q (fun y => X ((Shape.reshapeEquiv h.numel_eq).symm y)) := by
  have es (g : m.view.ty.Contents (Elt F)) : (m.view.loc (c : Thread nD τ) ↦[(m.view.reshape s' h.numel_eq).set]{q} g : sProp 𝕄)
      = m.view.loc (c : Thread nD τ) ↦[m.view.set]{q} g := by rw [View.set_reshape]
  have h₁ : (owns (c : Thread nD τ) (m.squeeze s' h) q X : sProp 𝕄) ⊢ owns (c : Thread nD τ) m q (fun y => X ((Shape.reshapeEquiv h.numel_eq).symm y)) := by
    unfold owns
    iintro ⟨%g, %hg, H⟩
    iexists g
    isplitr
    · ipureintro
      rw [← hg]
      funext y
      show _ = m.view.read (Elt F) g (Shape.reshapeEquiv h.numel_eq ((Shape.reshapeEquiv h.numel_eq).symm y))
      rw [Equiv.apply_symm_apply]
    · iapply (Entails.of_eq (es g)); iexact H
  have h₂ : (owns (c : Thread nD τ) m q (fun y => X ((Shape.reshapeEquiv h.numel_eq).symm y)) : sProp 𝕄) ⊢ owns (c : Thread nD τ) (m.squeeze s' h) q X := by
    unfold owns
    iintro ⟨%g, %hg, H⟩
    iexists g
    isplitr
    · ipureintro
      funext y
      show m.view.read (Elt F) g (Shape.reshapeEquiv h.numel_eq y) = _
      rw [hg]; exact congrArg X (Equiv.symm_apply_apply _ y)
    · iapply (Entails.of_eq (es g).symm); iexact H
  exact BI.equiv_iff.mp ⟨h₁, h₂⟩

end Cert.KernelIdealRun

end
-- ==== Proof.KernelIdealPhase.lean ====
/-
The phases of the kernel on one device, each as a state that counts how far the phase has come, and one lemma for each
operation of the phase that takes the state one further.
-/
module

public import proofs.«01_k».proof.Proof.KernelIdealSteps

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)
variable {α : Type} {Q : α → sProp (MT nD τ sig Unit (Elt F) ℕ UU ℕ)}

/-- The invariants, and what is owed after `n` payments. -/
def Core (n : ℕ) : sProp 𝕄 := iprop(recs I K ∗ Ow c n)

theorem num_mk (p : Fin 5) (t : Fin 7) : num (p, t) = 7 * p.val + t.val := rfl

/-! ## The signals -/

/-- Before the entry barrier: signal `t` is next, and carries the places its partner will write. -/
def SB (t : ℕ) : sProp 𝕄 := iprop(Core I K c (7 * 0 + t) ∗ rem (fun t => tok c (0, t)) t ∗ rem (fun t => Land c t) t)

theorem sig_step (t : Fin 7) {n n' : ℕ} (hn : n = t.val) (hn' : n' = t.val + 1) {sem : Sem sig} (hs : sem = sigS 0) {p : Dev nD} (hp : p = peer c t) {u : ℕ} (hu : u = 1)
    {k : PUnit → Prog (TpuEff nD τ sig (Elt F) Λ₀ .tc) α} :
    SB I K c n ⊢ iprop((SB I K c n' -∗ WP c (k ⟨⟩) Q) -∗ WP c (.op (.semSignal (Dev.tc p : Thread nD τ) sem u) k) Q) := by
  subst hn; subst hn'
  unfold SB Core
  rw [rem_step, rem_step]
  iintro ⟨⟨#HR, HO⟩, ⟨Ht, Hts⟩, ⟨Hl, Hls⟩⟩ Hk
  iapply (step_sig I K c 0 (0, t) rfl hs hp hu) $$ [HO Ht Hl]
  · isplitr; · iexact HR
    isplitl [HO]; · iexact HO
    isplitl [Ht]; · iexact Ht
    rw [show payK I (payTo (0, t)) (peer c t) (payDuty (0, t)) = Land c t by
      show Land (peer (peer c t) (rv t)) (rv (rv t)) = _
      rw [peer_peer, rv_rv]]
    iexact Hl
  iintro HO
  iapply Hk
  isplitl [HO]
  · isplitr; · iexact HR
    iexact HO
  isplitl [Hts]; · iexact Hts
  iexact Hls

/-- At the exit: signal `t` is next. -/
def SE (t : ℕ) : sProp 𝕄 := iprop(Core I K c (7 * 4 + t) ∗ rem (fun t => tok c (4, t)) t)

theorem exit_step (t : Fin 7) {n n' : ℕ} (hn : n = t.val) (hn' : n' = t.val + 1) {sem : Sem sig} (hs : sem = sigS 1) {p : Dev nD} (hp : p = peer c t) {u : ℕ} (hu : u = 1)
    {k : PUnit → Prog (TpuEff nD τ sig (Elt F) Λ₀ .tc) α} :
    SE I K c n ⊢ iprop((SE I K c n' -∗ WP c (k ⟨⟩) Q) -∗ WP c (.op (.semSignal (Dev.tc p : Thread nD τ) sem u) k) Q) := by
  subst hn; subst hn'
  unfold SE Core
  rw [rem_step]
  iintro ⟨⟨#HR, HO⟩, ⟨Ht, Hts⟩⟩ Hk
  iapply (step_sig I K c 1 (4, t) rfl hs hp hu) $$ [HO Ht]
  · isplitr; · iexact HR
    isplitl [HO]; · iexact HO
    isplitl [Ht]; · iexact Ht
    iapply (show iprop(emp) ⊢ payK I (payTo (4, t)) (peer c t) (payDuty (4, t)) from .rfl)
    iempintro
  iintro HO
  iapply Hk
  isplitl [HO]
  · isplitr; · iexact HR
    iexact HO
  iexact Hts

/-! ## The transfers -/

/-- Transfers `t, t+1, …` of phase `p` are to come, each with what it takes; the earlier ones left a credit. -/
def SS (p : Fin 5) (m : Fin 6) (W : Fin 7 → sProp 𝕄) (t : ℕ) : sProp 𝕄 :=
  iprop(Core I K c (7 * p.val + t) ∗ rem W t ∗ don (fun t => crd c (.inr (m, t))) t)

theorem send_step (p : Fin 5) (m m' : Fin 6) (t : Fin 7) {W : Fin 7 → sProp 𝕄}
    (hx : payTo (p, t) = .inr (m', rv t)) (hx0 : payDuty (p, t) = 0) (hmm : amtD m = amtD m')
    {s : Shape} {src dst src₀ dst₀ : Memref sig .tc .vmem s .bf16} (es : src = src₀) (ed : dst = dst₀) {sS sR : DmaSem sig}
    (hS : sS = dsem m t) (hR : sR = dsem m' (rv t)) {d : Dev nD} (hp : d = peer c t) (hd : dst₀.view.dmaCredit = amtD m)
    {hsc : dst.view.ref.isScScratch = false} {hsrc : src.view.WordExact} {hdst : dst.view.WordExact}
    {hsem : DmaTarget.Typed .vmem (.dma sR) (.remote (Dev.tc d : Thread nD τ) dst (.dma sS) hsc)}
    (q : PosShare TreeShare) (X : s.Idx → Elt F .bf16)
    (hW : W t = iprop(owns (c : Thread nD τ) src₀ q X ∗ (∃ Y, owns (peer c t : Thread nD τ) dst₀ fullShare Y) ∗ stok c m t ∗ tok c (p, t)))
    (h1 : owns (c : Thread nD τ) src₀ q X ⊢ dpay I m t c)
    (h2 : owns (peer c t : Thread nD τ) dst₀ fullShare X ⊢ dpay I m' (rv t) (peer c t))
    {k : PUnit → Prog (TpuEff nD τ sig (Elt F) Λ₀ .tc) α} :
    SS I K c p m W t.val
      ⊢ iprop((SS I K c p m W (t.val + 1) -∗ WP c (k ⟨⟩) Q)
          -∗ WP c (.op (.enqueueDma src (.remote (Dev.tc d : Thread nD τ) dst (.dma sS) hsc) (.dma sR) hsrc hdst hsem) k) Q) := by
  unfold SS Core
  rw [rem_step, don_step, hW]
  iintro ⟨⟨#HR, HO⟩, ⟨⟨Hs, Hd, Ht, Ht'⟩, Hr⟩, Hdn⟩ Hk
  iapply (step_send I K c m m' (p, t) hx hx0 hmm es ed hS hR hp hd q X h1 h2) $$ [HO Hs Hd Ht Ht']
  · isplitr; · iexact HR
    isplitl [HO]; · iexact HO
    isplitl [Hs]; · iexact Hs
    isplitl [Hd]; · iexact Hd
    isplitl [Ht]; · iexact Ht
    iexact Ht'
  iintro ⟨HO, Hc⟩
  iapply Hk
  isplitl [HO]
  · isplitr; · iexact HR
    iexact HO
  isplitl [Hr]; · iexact Hr
  isplitl [Hc]; · iexact Hc
  iexact Hdn

/-- What a transfer takes: of the narrowed weight, of a row block of the partial product, of a column block of the result. -/
def WW (t : Fin 7) : sProp 𝕄 :=
  iprop(owns (c : Thread nD τ) wbM (Transfers.shareTok fullShare 7 t) (wbV I c) ∗ (∃ Y, owns (peer c t : Thread nD τ) (wfCol c) fullShare Y)
    ∗ stok c 0 t ∗ tok c (1, t))
def WR (t : Fin 7) : sProp 𝕄 :=
  iprop(owns (c : Thread nD τ) (hbRow (peer c t)) fullShare (rows (hbV I c) (peer c t)) ∗ (∃ Y, owns (peer c t : Thread nD τ) (rsSlt (rv t)) fullShare Y)
    ∗ stok c 2 t ∗ tok c (2, t))
def WO (t : Fin 7) : sProp 𝕄 :=
  iprop(owns (c : Thread nD τ) (obCol (peer c t)) fullShare (cols (obV I c) (peer c t)) ∗ (∃ Y, owns (peer c t : Thread nD τ) (otSlt (rv t)) fullShare Y)
    ∗ stok c 4 t ∗ tok c (3, t))

/-- The phases of the three groups of transfers. -/
def SW (t : ℕ) : sProp 𝕄 := SS I K c 1 0 (WW I c) t
def SR (t : ℕ) : sProp 𝕄 := SS I K c 2 2 (WR I c) t
def SO (t : ℕ) : sProp 𝕄 := SS I K c 3 4 (WO I c) t

theorem w_step (t : Fin 7) {n n' : ℕ} (hn : n = t.val) (hn' : n' = t.val + 1) {off : Fin 2 → ℕ} (ho : off = ![0, 256 * c.val]) {inb : ∀ a, off a + S512x256.size a ≤ S512x2048.size a} {hst}
    {sS sR : DmaSem sig} (hS : sS = dsem 0 t) (hR : sR = dsem 1 (rv t)) {d : Dev nD} (hp : d = peer c t)
    {hsc : (wfM.slice (Rect.unit (s := S512x2048) off S512x256.size inb) hst).view.ref.isScScratch = false} {hsrc : wbM.view.WordExact}
    {hdst : (wfM.slice (Rect.unit (s := S512x2048) off S512x256.size inb) hst).view.WordExact}
    {hsem : DmaTarget.Typed .vmem (.dma sR) (.remote (Dev.tc d : Thread nD τ) (wfM.slice (Rect.unit (s := S512x2048) off S512x256.size inb) hst) (.dma sS) hsc)}
    {k : PUnit → Prog (TpuEff nD τ sig (Elt F) Λ₀ .tc) α} :
    SW I K c n
      ⊢ iprop((SW I K c n' -∗ WP c (k ⟨⟩) Q)
          -∗ WP c (.op (.enqueueDma wbM (.remote (Dev.tc d : Thread nD τ) (wfM.slice (Rect.unit (s := S512x2048) off S512x256.size inb) hst) (.dma sS) hsc)
            (.dma sR) hsrc hdst hsem) k) Q) :=
  hn ▸ hn' ▸ send_step I K c 1 0 1 t rfl rfl rfl (src₀ := wbM) (dst₀ := wfCol c) rfl (Memref.slice_unit_congr _ ho _ _ _ _) hS hR hp rfl
    (Transfers.shareTok fullShare 7 t) (wbV I c) rfl .rfl
    (Entails.of_eq (by
      show _ = owns (peer c t : Thread nD τ) (wfCol (peer (peer c t) (rv t))) fullShare (wbV I (peer (peer c t) (rv t)))
      rw [peer_peer]))

theorem r_step (t : Fin 7) {n n' : ℕ} (hn : n = t.val) (hn' : n' = t.val + 1) {off : Fin 2 → ℕ} (ho : off = ![512 * (peer c t).val, 0]) {inb : ∀ a, off a + S512x512.size a ≤ S4096x512.size a} {hst}
    {off' : Fin 3 → ℕ} (ho' : off' = ![(rv t).val, 0, 0]) {inb' : ∀ a, off' a + S1x512x512.size a ≤ S7x512x512.size a} {hst'}
    {sS sR : DmaSem sig} (hS : sS = dsem 2 t) (hR : sR = dsem 3 (rv t)) {d : Dev nD} (hp : d = peer c t)
    {hsq : S1x512x512.Squeezes S512x512}
    {hsc : ((rsM.slice (Rect.unit (s := S7x512x512) off' S1x512x512.size inb') hst').squeeze S512x512 hsq).view.ref.isScScratch = false}
    {hsrc : (hbM.slice (Rect.unit (s := S4096x512) off S512x512.size inb) hst).view.WordExact}
    {hdst : ((rsM.slice (Rect.unit (s := S7x512x512) off' S1x512x512.size inb') hst').squeeze S512x512 hsq).view.WordExact}
    {hsem : DmaTarget.Typed .vmem (.dma sR) (.remote (Dev.tc d : Thread nD τ)
      ((rsM.slice (Rect.unit (s := S7x512x512) off' S1x512x512.size inb') hst').squeeze S512x512 hsq) (.dma sS) hsc)}
    {k : PUnit → Prog (TpuEff nD τ sig (Elt F) Λ₀ .tc) α} :
    SR I K c n
      ⊢ iprop((SR I K c n' -∗ WP c (k ⟨⟩) Q)
          -∗ WP c (.op (.enqueueDma (hbM.slice (Rect.unit (s := S4096x512) off S512x512.size inb) hst)
            (.remote (Dev.tc d : Thread nD τ) ((rsM.slice (Rect.unit (s := S7x512x512) off' S1x512x512.size inb') hst').squeeze S512x512 hsq) (.dma sS) hsc)
            (.dma sR) hsrc hdst hsem) k) Q) :=
  hn ▸ hn' ▸ send_step I K c 2 2 3 t rfl rfl rfl (src₀ := hbRow (peer c t)) (dst₀ := rsSlt (rv t)) (Memref.slice_unit_congr _ ho _ _ _ _)
    (by subst ho'; rfl) hS hR hp rfl fullShare (rows (hbV I c) (peer c t)) rfl .rfl
    (Entails.of_eq (by
      show _ = owns (peer c t : Thread nD τ) (rsSlt (rv t)) fullShare (rows (hbV I (peer (peer c t) (rv t))) (peer c t))
      rw [peer_peer]))

theorem o_step (t : Fin 7) {n n' : ℕ} (hn : n = t.val) (hn' : n' = t.val + 1) {off : Fin 2 → ℕ} (ho : off = ![0, 256 * (peer c t).val]) {inb : ∀ a, off a + S512x256.size a ≤ S512x2048.size a} {hst}
    {off' : Fin 3 → ℕ} (ho' : off' = ![(rv t).val, 0, 0]) {inb' : ∀ a, off' a + S1x512x256.size a ≤ S7x512x256.size a} {hst'}
    {sS sR : DmaSem sig} (hS : sS = dsem 4 t) (hR : sR = dsem 5 (rv t)) {d : Dev nD} (hp : d = peer c t)
    {hsq : S1x512x256.Squeezes S512x256}
    {hsc : ((otM.slice (Rect.unit (s := S7x512x256) off' S1x512x256.size inb') hst').squeeze S512x256 hsq).view.ref.isScScratch = false}
    {hsrc : (obM.slice (Rect.unit (s := S512x2048) off S512x256.size inb) hst).view.WordExact}
    {hdst : ((otM.slice (Rect.unit (s := S7x512x256) off' S1x512x256.size inb') hst').squeeze S512x256 hsq).view.WordExact}
    {hsem : DmaTarget.Typed .vmem (.dma sR) (.remote (Dev.tc d : Thread nD τ)
      ((otM.slice (Rect.unit (s := S7x512x256) off' S1x512x256.size inb') hst').squeeze S512x256 hsq) (.dma sS) hsc)}
    {k : PUnit → Prog (TpuEff nD τ sig (Elt F) Λ₀ .tc) α} :
    SO I K c n
      ⊢ iprop((SO I K c n' -∗ WP c (k ⟨⟩) Q)
          -∗ WP c (.op (.enqueueDma (obM.slice (Rect.unit (s := S512x2048) off S512x256.size inb) hst)
            (.remote (Dev.tc d : Thread nD τ) ((otM.slice (Rect.unit (s := S7x512x256) off' S1x512x256.size inb') hst').squeeze S512x256 hsq) (.dma sS) hsc)
            (.dma sR) hsrc hdst hsem) k) Q) :=
  hn ▸ hn' ▸ send_step I K c 3 4 5 t rfl rfl rfl (src₀ := obCol (peer c t)) (dst₀ := otSlt (rv t)) (Memref.slice_unit_congr _ ho _ _ _ _)
    (by subst ho'; rfl) hS hR hp rfl fullShare (cols (obV I c) (peer c t)) rfl .rfl
    (Entails.of_eq (by
      show _ = owns (peer c t : Thread nD τ) (otSlt (rv t)) fullShare (cols (obV I (peer (peer c t) (rv t))) (peer c t))
      rw [peer_peer]))

/-! ## The waits -/

/-- Waits `u, u+1, …` on array `m`, entry `σ u`, are to come, each with its credit; the earlier ones brought what they carry. -/
def SV (m : Fin 6) (σ : Fin 7 → Fin 7) (u : ℕ) : sProp 𝕄 :=
  iprop(rem (fun u => iprop(crd c (.inr (m, σ u)) ∗ pos0 c (.inr (m, σ u)))) u
    ∗ don (fun u => iprop(pos1 c (.inr (m, σ u)) ∗ dpay I m (σ u) c)) u)

theorem ok_rs : ∀ (j : Fin 7) (x : PT), 21 ≤ num x → lvK (.inr (3, j)) < lvK (payTo x) := by decide
theorem ok_w : ∀ (j : Fin 7) (x : PT), 21 ≤ num x → lvK (.inr (1, j)) < lvK (payTo x) := by decide
theorem ok_o : ∀ (j : Fin 7) (x : PT), 28 ≤ num x → lvK (.inr (5, j)) < lvK (payTo x) := by decide
theorem ok_s0 : ∀ (j : Fin 7) (x : PT), 28 ≤ num x → lvK (.inr (0, j)) < lvK (payTo x) := by decide
theorem ok_s2 : ∀ (j : Fin 7) (x : PT), 28 ≤ num x → lvK (.inr (2, j)) < lvK (payTo x) := by decide
theorem ok_s4 : ∀ (j : Fin 7) (x : PT), 28 ≤ num x → lvK (.inr (4, j)) < lvK (payTo x) := by decide
theorem ok_bar : ∀ x : PT, 7 ≤ num x → lvK (.inl 0) < lvK (payTo x) := by decide
theorem ok_exit : ∀ x : PT, 35 ≤ num x → lvK (.inl 1) < lvK (payTo x) := by decide

/-- The same with what is owed. -/
def CV (n : ℕ) (m : Fin 6) (σ : Fin 7 → Fin 7) (u : ℕ) : sProp 𝕄 := iprop(Core I K c n ∗ SV I c m σ u)

theorem wait_step (m : Fin 6) (σ : Fin 7 → Fin 7) (n : ℕ) (u : Fin 7) {v v' : ℕ} (hv : v = u.val) (hv' : v' = u.val + 1)
    (hn : ∀ (j : Fin 7) (x : PT), n ≤ num x → lvK (.inr (m, j)) < lvK (payTo x))
    {sp sp' : Space} {s s' : Shape} {e e' : EltTy} {src : Memref sig .tc sp s e} {dst : Memref sig .tc sp' s' e'}
    {sem : DmaSem sig} (hs : sem = dsem m (σ u)) (hd : dst.view.dmaCredit = amtD m)
    {hsrc : src.view.WordExact} {hdst : dst.view.WordExact} {k : PUnit → Prog (TpuEff nD τ sig (Elt F) Λ₀ .tc) α} :
    CV I K c n m σ v
      ⊢ iprop((CV I K c n m σ v' -∗ WP c (k ⟨⟩) Q)
          -∗ WP c (.op (.waitDma2 sem src dst hsrc hdst) k) Q) := by
  subst hv; subst hv'
  unfold CV SV Core
  rw [rem_step, don_step]
  iintro ⟨⟨#HR, HO⟩, ⟨⟨Hc, Hp⟩, Hr⟩, Hdn⟩ Hk
  iapply (step_wait I K c m (σ u) n (hn (σ u)) hs hd) $$ [HO Hc Hp]
  · isplitr; · iexact HR
    isplitl [HO]; · iexact HO
    isplitl [Hc]; · iexact Hc
    iexact Hp
  iintro ⟨HO, Hp, Hd⟩
  iapply Hk
  isplitl [HO]
  · isplitr; · iexact HR
    iexact HO
  isplitl [Hr]; · iexact Hr
  isplitr [Hdn]
  · isplitl [Hp]; · iexact Hp
    iexact Hd
  iexact Hdn

/-- The load of the slot that the last wait filled: of partial sums, of results. -/
theorem slot_rs (n : ℕ) (u : Fin 7) {v : ℕ} (hv : v = u.val + 1) {off : Fin 3 → ℕ} (ho : off = ![(rv u).val, 0, 0]) {inb : ∀ a, off a + S1x512x512.size a ≤ S7x512x512.size a}
    {hl : rsM.view.LoadsAt (Rect.unit (s := S7x512x512) off S1x512x512.size inb).toLoadRect}
    {k : (S1x512x512.Idx → Elt F .bf16) → Prog (TpuEff nD τ sig (Elt F) Λ₀ .tc) α} :
    CV I K c n 3 rv v
      ⊢ iprop((CV I K c n 3 rv v -∗ WP c (k (lift1 (rsV I c (rv u)))) Q)
          -∗ WP c (.op (.load rsM (Rect.unit (s := S7x512x512) off S1x512x512.size inb).toLoadRect hl) k) Q) := by
  subst hv
  have h : owns (c : Thread nD τ) (rsM.slice (sltR (rv u)) (fun _ => rfl)) fullShare (lift1 (rsV I c (rv u)))
      ⊢ iprop((owns (c : Thread nD τ) (rsM.slice (sltR (rv u)) (fun _ => rfl)) fullShare (lift1 (rsV I c (rv u))) -∗ WP c (k (lift1 (rsV I c (rv u)))) Q)
        -∗ WP c (.op (.load rsM (Rect.unit (s := S7x512x512) off S1x512x512.size inb).toLoadRect hl) k) Q) :=
    step_load (s := S7x512x512) c ho (size := S1x512x512.size) (inb := inb) (inb' := inbS (rv u)) rsM fullShare (lift1 (rsV I c (rv u))) (hl := hl) (k := k)
  unfold CV SV
  rw [don_step]
  iintro ⟨HC, Hr, ⟨Hp, Hd⟩, Hdn⟩ Hk
  have e : dpay I 3 (rv u) c = owns (c : Thread nD τ) (rsM.slice (sltR (rv u)) (fun _ => rfl)) fullShare (lift1 (rsV I c (rv u))) :=
    owns_squeeze c (rsM.slice (sltR (rv u)) (fun _ => rfl)) S512x512 squeezes_S1x512x512_S512x512 fullShare (rsV I c (rv u))
  ihave Hd := (Entails.of_eq e) $$ Hd
  iapply h $$ Hd
  iintro Hd
  iapply Hk
  isplitl [HC]; · iexact HC
  isplitl [Hr]; · iexact Hr
  isplitr [Hdn]
  · isplitl [Hp]; · iexact Hp
    iapply (Entails.of_eq e.symm); iexact Hd
  iexact Hdn

theorem slot_ot (n : ℕ) (u : Fin 7) {v : ℕ} (hv : v = u.val + 1) {off : Fin 3 → ℕ} (ho : off = ![(rv u).val, 0, 0]) {inb : ∀ a, off a + S1x512x256.size a ≤ S7x512x256.size a}
    {hl : otM.view.LoadsAt (Rect.unit (s := S7x512x256) off S1x512x256.size inb).toLoadRect}
    {k : (S1x512x256.Idx → Elt F .bf16) → Prog (TpuEff nD τ sig (Elt F) Λ₀ .tc) α} :
    CV I K c n 5 rv v
      ⊢ iprop((CV I K c n 5 rv v -∗ WP c (k (lift2 (otV I c (rv u)))) Q)
          -∗ WP c (.op (.load otM (Rect.unit (s := S7x512x256) off S1x512x256.size inb).toLoadRect hl) k) Q) := by
  subst hv
  have h : owns (c : Thread nD τ) (otM.slice (sltO (rv u)) (fun _ => rfl)) fullShare (lift2 (otV I c (rv u)))
      ⊢ iprop((owns (c : Thread nD τ) (otM.slice (sltO (rv u)) (fun _ => rfl)) fullShare (lift2 (otV I c (rv u))) -∗ WP c (k (lift2 (otV I c (rv u)))) Q)
        -∗ WP c (.op (.load otM (Rect.unit (s := S7x512x256) off S1x512x256.size inb).toLoadRect hl) k) Q) :=
    step_load (s := S7x512x256) c ho (size := S1x512x256.size) (inb := inb) (inb' := inbT (rv u)) otM fullShare (lift2 (otV I c (rv u))) (hl := hl) (k := k)
  unfold CV SV
  rw [don_step]
  iintro ⟨HC, Hr, ⟨Hp, Hd⟩, Hdn⟩ Hk
  have e : dpay I 5 (rv u) c = owns (c : Thread nD τ) (otM.slice (sltO (rv u)) (fun _ => rfl)) fullShare (lift2 (otV I c (rv u))) :=
    owns_squeeze c (otM.slice (sltO (rv u)) (fun _ => rfl)) S512x256 squeezes_S1x512x256_S512x256 fullShare (otV I c (rv u))
  ihave Hd := (Entails.of_eq e) $$ Hd
  iapply h $$ Hd
  iintro Hd
  iapply Hk
  isplitl [HC]; · iexact HC
  isplitl [Hr]; · iexact Hr
  isplitr [Hdn]
  · isplitl [Hp]; · iexact Hp
    iapply (Entails.of_eq e.symm); iexact Hd
  iexact Hdn

/-! ## The row blocks of the result -/

theorem outB_own (c : Dev nD) : outB I c c = cols (ocV I c) c := if_pos rfl
theorem outB_peer (c : Dev nD) (j : Fin 7) : outB I c (peer c j) = k0_pay10 (lift2 (otV I c j)) := if_neg (peer_ne c j)

/-- Row blocks of the partners, in the order their results are awaited: the first `u` of them are written. -/
def OB (u : ℕ) : sProp 𝕄 :=
  iprop(rem (fun u => iprop(∃ Y, owns (c : Thread nD τ) (oRow (peer c (rv u))) fullShare Y)) u
    ∗ don (fun u => owns (c : Thread nD τ) (oRow (peer c (rv u))) fullShare (outB I c (peer c (rv u)))) u)

theorem ob_load (u : Fin 7) {v : ℕ} (hv : v = u.val) {off : Fin 2 → ℕ} (ho : off = ![512 * (peer c (rv u)).val, 0]) {inb : ∀ a, off a + S512x256.size a ≤ S4096x256.size a}
    {hl : oM.view.LoadsAt (Rect.unit (s := S4096x256) off S512x256.size inb).toLoadRect}
    {k : (S512x256.Idx → Elt F .f32) → Prog (TpuEff nD τ sig (Elt F) Λ₀ .tc) α} :
    OB I c v
      ⊢ iprop((∀ y, OB I c v -∗ WP c (k y) Q) -∗ WP c (.op (.load oM (Rect.unit (s := S4096x256) off S512x256.size inb).toLoadRect hl) k) Q) := by
  subst hv
  unfold OB
  rw [rem_step]
  iintro ⟨⟨⟨%Y, Hd⟩, Hr⟩, Hdn⟩ Hk
  iapply (step_load c ho oM fullShare Y) $$ Hd
  iintro Hd
  iapply Hk $$ %Y
  isplitr [Hdn]
  · isplitl [Hd]; · iexists Y; iexact Hd
    iexact Hr
  iexact Hdn

theorem ob_store (u : Fin 7) {v v' : ℕ} (hv : v = u.val) (hv' : v' = u.val + 1) {off : Fin 2 → ℕ} (ho : off = ![512 * (peer c (rv u)).val, 0]) {inb : ∀ a, off a + S512x256.size a ≤ S4096x256.size a}
    {w : S512x256.Idx → Elt F .f32} (hw : w = k0_pay10 (lift2 (otV I c (rv u))))
    {hx : (oM.access (Rect.unit (s := S4096x256) off S512x256.size inb)).Stores Finset.univ}
    {hm : Finset.univ = Finset.univ ∨ ∀ a, (Rect.unit (s := S4096x256) off S512x256.size inb).stride a = 1}
    {k : PUnit → Prog (TpuEff nD τ sig (Elt F) Λ₀ .tc) α} :
    OB I c v
      ⊢ iprop((OB I c v' -∗ WP c (k ⟨⟩) Q) -∗ WP c (.op (.store oM (Rect.unit (s := S4096x256) off S512x256.size inb) w Finset.univ hx hm) k) Q) := by
  subst hw; subst hv; subst hv'
  have h : iprop(∃ Y, owns (c : Thread nD τ) (oRow (peer c (rv u))) fullShare Y)
      ⊢ iprop((owns (c : Thread nD τ) (oRow (peer c (rv u))) fullShare (k0_pay10 (lift2 (otV I c (rv u)))) -∗ WP c (k ⟨⟩) Q)
        -∗ WP c (.op (.store oM (Rect.unit (s := S4096x256) off S512x256.size inb) (k0_pay10 (lift2 (otV I c (rv u)))) Finset.univ hx hm) k) Q) :=
    step_store (s := S4096x256) c ho (size := S512x256.size) (inb := inb) (inb' := inbO (peer c (rv u))) oM (k0_pay10 (lift2 (otV I c (rv u)))) (hx := hx) (hm := hm) (k := k)
  unfold OB
  rw [rem_step, don_step, outB_peer]
  iintro ⟨⟨Hd, Hr⟩, Hdn⟩ Hk
  iapply h $$ Hd
  iintro Hd
  iapply Hk
  isplitl [Hr]; · iexact Hr
  isplitl [Hd]; · iexact Hd
  iexact Hdn

end Cert.KernelIdealRun

end
-- ==== Proof.KernelIdealSplit.lean ====
/-
An array cut into blocks and put together again: the gathered weight, the partial product, the narrowed result, the
result, the landing buffers, and the narrowed weight shared by seven transfers and the kernel's own reads.
-/
module

public import proofs.«01_k».proof.Proof.KernelIdealPhase

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD)

/-! ## Blocks -/

theorem disjC (b b' : Dev nD) (h : b ≠ b') : Disjoint (colR b).set (colR b').set :=
  Ring.lead_disjoint (s := S512x2048) (NB := 8) 1 256 (fun s : Fin 8 => ![0, 256 * s.val]) S512x256.size inbC (fun _ => rfl) rfl b b' h
theorem covC : (Finset.univ : Finset (Dev nD)).biUnion (fun b => (colR b).set) = Finset.univ :=
  Ring.lead_cover (s := S512x2048) (NB := 8) 1 256 (fun s : Fin 8 => ![0, 256 * s.val]) S512x256.size inbC (fun _ => rfl)
    (by intro b a h; fin_cases a; exacts [rfl, absurd rfl h]) rfl (by intro a h; fin_cases a; exacts [rfl, absurd rfl h]) rfl
theorem disjR (b b' : Dev nD) (h : b ≠ b') : Disjoint (rowR b).set (rowR b').set :=
  Ring.lead_disjoint (s := S4096x512) (NB := 8) 0 512 (fun s : Fin 8 => ![512 * s.val, 0]) S512x512.size inbR (fun _ => rfl) rfl b b' h
theorem covR : (Finset.univ : Finset (Dev nD)).biUnion (fun b => (rowR b).set) = Finset.univ :=
  Ring.lead_cover (s := S4096x512) (NB := 8) 0 512 (fun s : Fin 8 => ![512 * s.val, 0]) S512x512.size inbR (fun _ => rfl)
    (by intro b a h; fin_cases a; exacts [absurd rfl h, rfl]) rfl (by intro a h; fin_cases a; exacts [absurd rfl h, rfl]) rfl
theorem disjO (b b' : Dev nD) (h : b ≠ b') : Disjoint (rowO b).set (rowO b').set :=
  Ring.lead_disjoint (s := S4096x256) (NB := 8) 0 512 (fun s : Fin 8 => ![512 * s.val, 0]) S512x256.size inbO (fun _ => rfl) rfl b b' h
theorem covO : (Finset.univ : Finset (Dev nD)).biUnion (fun b => (rowO b).set) = Finset.univ :=
  Ring.lead_cover (s := S4096x256) (NB := 8) 0 512 (fun s : Fin 8 => ![512 * s.val, 0]) S512x256.size inbO (fun _ => rfl)
    (by intro b a h; fin_cases a; exacts [absurd rfl h, rfl]) rfl (by intro a h; fin_cases a; exacts [absurd rfl h, rfl]) rfl
theorem disjS (b b' : Fin 7) (h : b ≠ b') : Disjoint (sltR b).set (sltR b').set :=
  Ring.lead_disjoint (s := S7x512x512) (NB := 7) 0 1 (fun s : Fin 7 => ![s.val, 0, 0]) S1x512x512.size inbS (fun b => (Nat.one_mul b.val).symm) rfl b b' h
theorem covS : (Finset.univ : Finset (Fin 7)).biUnion (fun b => (sltR b).set) = Finset.univ :=
  Ring.lead_cover (s := S7x512x512) (NB := 7) 0 1 (fun s : Fin 7 => ![s.val, 0, 0]) S1x512x512.size inbS (fun b => (Nat.one_mul b.val).symm)
    (by intro b a h; fin_cases a; exacts [absurd rfl h, rfl, rfl]) rfl (by intro a h; fin_cases a; exacts [absurd rfl h, rfl, rfl]) rfl
theorem disjT (b b' : Fin 7) (h : b ≠ b') : Disjoint (sltO b).set (sltO b').set :=
  Ring.lead_disjoint (s := S7x512x256) (NB := 7) 0 1 (fun s : Fin 7 => ![s.val, 0, 0]) S1x512x256.size inbT (fun b => (Nat.one_mul b.val).symm) rfl b b' h
theorem covT : (Finset.univ : Finset (Fin 7)).biUnion (fun b => (sltO b).set) = Finset.univ :=
  Ring.lead_cover (s := S7x512x256) (NB := 7) 0 1 (fun s : Fin 7 => ![s.val, 0, 0]) S1x512x256.size inbT (fun b => (Nat.one_mul b.val).symm)
    (by intro b a h; fin_cases a; exacts [absurd rfl h, rfl, rfl]) rfl (by intro a h; fin_cases a; exacts [absurd rfl h, rfl, rfl]) rfl

theorem all_mono {n : ℕ} {Φ Ψ : Fin n → sProp 𝕄} (h : ∀ t, Φ t ⊢ Ψ t) : bigSep Finset.univ Φ ⊢ bigSep Finset.univ Ψ :=
  bigSep_mono fun t _ => h t

section
variable {s : Shape} {e : EltTy} (m : Memref sig .tc .vmem s e) (q : PosShare TreeShare)

/-- A memref cut into one block for each device: the device's own and its partners'. -/
theorem owns_blocks (r : Dev nD → Rect s) (hr : ∀ t a, (r t).stride a = 1) (hd : ∀ t t', t ≠ t' → Disjoint (r t).set (r t').set)
    (hcov : (Finset.univ : Finset (Dev nD)).biUnion (fun t => (r t).set) = Finset.univ) (X : s.Idx → Elt F e) :
    (owns (c : Thread nD τ) m q X : sProp 𝕄)
      = iprop(owns (c : Thread nD τ) (m.slice (r c) (hr c)) q (fun j => X ((r c).emb j))
          ∗ bigSep Finset.univ fun t : Fin 7 => owns (c : Thread nD τ) (m.slice (r (peer c t)) (hr _)) q (fun j => X ((r (peer c t)).emb j))) := by
  have h₁ := owns_rects (c : Thread nD τ) m q r hr hd hcov X (Lvl := ℕ) (Ix := Unit) (Name := ℕ) (U := UU)
  have h₂ := owns_of_rects (c : Thread nD τ) m q r hr hd hcov X (Lvl := ℕ) (Ix := Unit) (Name := ℕ) (U := UU)
  rw [BI.equiv_iff.mp ⟨h₁, h₂⟩]
  exact bigSep_peers (fun t => owns (c : Thread nD τ) (m.slice (r t) (hr t)) q (fun j => X ((r t).emb j))) c

/-- Any contents of the parts of a disjoint family are those of some contents of the whole. -/
theorem glue {T α : Type} [Nonempty α] (r : T → Rect s) (hd : ∀ t t', t ≠ t' → Disjoint (r t).set (r t').set) (Y : ∀ t, (r t).shape.Idx → α) :
    ∃ X : s.Idx → α, ∀ t, (fun j => X ((r t).emb j)) = Y t := by
  classical
  refine ⟨fun i => if h : ∃ p : (t : T) × (r t).shape.Idx, (r p.1).emb p.2 = i then Y h.choose.1 h.choose.2 else Classical.arbitrary α, fun t => ?_⟩
  funext j
  have h : ∃ p : (t : T) × (r t).shape.Idx, (r p.1).emb p.2 = (r t).emb j := ⟨⟨t, j⟩, rfl⟩
  show (if h : ∃ p : (t : T) × (r t).shape.Idx, (r p.1).emb p.2 = (r t).emb j then Y h.choose.1 h.choose.2 else Classical.arbitrary α) = Y t j
  rw [dif_pos h]
  have hc := h.choose_spec
  generalize h.choose = p at hc
  obtain ⟨t', j'⟩ := p
  have ht : t' = t := by
    by_contra hne
    have m1 : (r t').emb j' ∈ (r t').set := by rw [← Rect.map_emb_univ]; exact Finset.mem_map_of_mem _ (Finset.mem_univ _)
    have m2 : (r t).emb j ∈ (r t).set := by rw [← Rect.map_emb_univ]; exact Finset.mem_map_of_mem _ (Finset.mem_univ _)
    exact Finset.disjoint_left.mp (hd t' t hne) m1 (hc ▸ m2)
  subst ht
  rw [(r t').emb.injective hc]
end

theorem wf_split : iprop(∃ X, owns (c : Thread nD τ) wfM fullShare X)
    ⊢ (iprop((∃ Y, owns (c : Thread nD τ) (wfCol c) fullShare Y) ∗ bigSep Finset.univ fun t : Fin 7 => iprop(∃ Y, owns (c : Thread nD τ) (wfCol (peer c t)) fullShare Y)) : sProp 𝕄) := by
  iintro ⟨%X, H⟩
  ihave H := (Entails.of_eq (owns_blocks c wfM fullShare colR (fun _ _ => rfl) disjC covC X)) $$ H
  icases H with ⟨H, Hs⟩
  isplitl [H]; · iexists _; iexact H
  iapply (all_mono fun t : Fin 7 => (show owns (c : Thread nD τ) (wfCol (peer c t)) fullShare (fun j => X ((colR (peer c t)).emb j))
    ⊢ (iprop(∃ Y, owns (c : Thread nD τ) (wfCol (peer c t)) fullShare Y) : sProp 𝕄) from by iintro H; iexists _; iexact H))
  iexact Hs
theorem o_split : iprop(∃ X, owns (c : Thread nD τ) oM fullShare X)
    ⊢ (iprop((∃ Y, owns (c : Thread nD τ) (oRow c) fullShare Y) ∗ bigSep Finset.univ fun t : Fin 7 => iprop(∃ Y, owns (c : Thread nD τ) (oRow (peer c t)) fullShare Y)) : sProp 𝕄) := by
  iintro ⟨%X, H⟩
  ihave H := (Entails.of_eq (owns_blocks c oM fullShare rowO (fun _ _ => rfl) disjO covO X)) $$ H
  icases H with ⟨H, Hs⟩
  isplitl [H]; · iexists _; iexact H
  iapply (all_mono fun t : Fin 7 => (show owns (c : Thread nD τ) (oRow (peer c t)) fullShare (fun j => X ((rowO (peer c t)).emb j))
    ⊢ (iprop(∃ Y, owns (c : Thread nD τ) (oRow (peer c t)) fullShare Y) : sProp 𝕄) from by iintro H; iexists _; iexact H))
  iexact Hs

theorem wf_whole : (owns (c : Thread nD τ) wfM fullShare (wfV I) : sProp 𝕄)
    = iprop(owns (c : Thread nD τ) (wfCol c) fullShare (wbV I c) ∗ bigSep Finset.univ fun j : Fin 7 => owns (c : Thread nD τ) (wfCol (peer c j)) fullShare (wbV I (peer c j))) := by
  rw [owns_blocks c wfM fullShare colR (fun _ _ => rfl) disjC covC (wfV I)]
  have e (s : Dev nD) : (fun j => wfV I ((colR s).emb j)) = wbV I s := cols_wfV I s
  simp only [e]
theorem o_whole : (owns (c : Thread nD τ) oM fullShare (outV I c) : sProp 𝕄)
    = iprop(owns (c : Thread nD τ) (oRow c) fullShare (outB I c c) ∗ bigSep Finset.univ fun j : Fin 7 => owns (c : Thread nD τ) (oRow (peer c j)) fullShare (outB I c (peer c j))) := by
  rw [owns_blocks c oM fullShare rowO (fun _ _ => rfl) disjO covO (outV I c)]
  have e (s : Dev nD) : (fun j => outV I c ((rowO s).emb j)) = outB I c s := outV_rows I c s
  simp only [e]
theorem hb_whole (X : S4096x512.Idx → Elt F .bf16) : (owns (c : Thread nD τ) hbM fullShare X : sProp 𝕄)
    = iprop(owns (c : Thread nD τ) (hbRow c) fullShare (rows X c) ∗ bigSep Finset.univ fun j : Fin 7 => owns (c : Thread nD τ) (hbRow (peer c j)) fullShare (rows X (peer c j))) :=
  owns_blocks c hbM fullShare rowR (fun _ _ => rfl) disjR covR X
theorem ob_whole (X : S512x2048.Idx → Elt F .bf16) : (owns (c : Thread nD τ) obM fullShare X : sProp 𝕄)
    = iprop(owns (c : Thread nD τ) (obCol c) fullShare (cols X c) ∗ bigSep Finset.univ fun j : Fin 7 => owns (c : Thread nD τ) (obCol (peer c j)) fullShare (cols X (peer c j))) :=
  owns_blocks c obM fullShare colR (fun _ _ => rfl) disjC covC X

theorem rs_slot (j : Fin 7) (Y : S512x512.Idx → Elt F .bf16) :
    (owns (c : Thread nD τ) (rsSlt j) fullShare Y : sProp 𝕄) = owns (c : Thread nD τ) (rsM.slice (sltR j) (fun _ => rfl)) fullShare (lift1 Y) :=
  owns_squeeze c (rsM.slice (sltR j) (fun _ => rfl)) S512x512 squeezes_S1x512x512_S512x512 fullShare Y
theorem ot_slot (j : Fin 7) (Y : S512x256.Idx → Elt F .bf16) :
    (owns (c : Thread nD τ) (otSlt j) fullShare Y : sProp 𝕄) = owns (c : Thread nD τ) (otM.slice (sltO j) (fun _ => rfl)) fullShare (lift2 Y) :=
  owns_squeeze c (otM.slice (sltO j) (fun _ => rfl)) S512x256 squeezes_S1x512x256_S512x256 fullShare Y

/-- A slot's contents read back from the slot with its leading axis. -/
theorem lift1_drop (Z : S1x512x512.Idx → Elt F .bf16) : lift1 (fun j => Z (Shape.reshapeEquiv squeezes_S1x512x512_S512x512.numel_eq j)) = Z :=
  funext fun y => congrArg Z (Equiv.apply_symm_apply _ y)
theorem lift2_drop (Z : S1x512x256.Idx → Elt F .bf16) : lift2 (fun j => Z (Shape.reshapeEquiv squeezes_S1x512x256_S512x256.numel_eq j)) = Z :=
  funext fun y => congrArg Z (Equiv.apply_symm_apply _ y)

theorem rs_split : iprop(∃ X, owns (c : Thread nD τ) rsM fullShare X)
    ⊢ (bigSep Finset.univ fun j : Fin 7 => iprop(∃ Y, owns (c : Thread nD τ) (rsSlt j) fullShare Y) : sProp 𝕄) := by
  iintro ⟨%X, H⟩
  ihave H := (owns_rects (c : Thread nD τ) rsM fullShare sltR (fun _ _ => rfl) disjS covS X) $$ H
  iapply (all_mono fun j : Fin 7 => (show owns (c : Thread nD τ) (rsM.slice (sltR j) (fun _ => rfl)) fullShare (fun y => X ((sltR j).emb y))
    ⊢ (iprop(∃ Y, owns (c : Thread nD τ) (rsSlt j) fullShare Y) : sProp 𝕄) from by
      iintro H
      iexists (fun i => X ((sltR j).emb (Shape.reshapeEquiv squeezes_S1x512x512_S512x512.numel_eq i)))
      rw [rs_slot, lift1_drop (fun y => X ((sltR j).emb y))]
      iexact H))
  iexact H
theorem ot_split : iprop(∃ X, owns (c : Thread nD τ) otM fullShare X)
    ⊢ (bigSep Finset.univ fun j : Fin 7 => iprop(∃ Y, owns (c : Thread nD τ) (otSlt j) fullShare Y) : sProp 𝕄) := by
  iintro ⟨%X, H⟩
  ihave H := (owns_rects (c : Thread nD τ) otM fullShare sltO (fun _ _ => rfl) disjT covT X) $$ H
  iapply (all_mono fun j : Fin 7 => (show owns (c : Thread nD τ) (otM.slice (sltO j) (fun _ => rfl)) fullShare (fun y => X ((sltO j).emb y))
    ⊢ (iprop(∃ Y, owns (c : Thread nD τ) (otSlt j) fullShare Y) : sProp 𝕄) from by
      iintro H
      iexists (fun i => X ((sltO j).emb (Shape.reshapeEquiv squeezes_S1x512x256_S512x256.numel_eq i)))
      rw [ot_slot, lift2_drop (fun y => X ((sltO j).emb y))]
      iexact H))
  iexact H

theorem rs_join (Y : Fin 7 → S512x512.Idx → Elt F .bf16) :
    (bigSep Finset.univ fun j : Fin 7 => owns (c : Thread nD τ) (rsSlt j) fullShare (Y j)) ⊢ (iprop(∃ X, owns (c : Thread nD τ) rsM fullShare X) : sProp 𝕄) := by
  haveI : Nonempty (Elt F .bf16) := ⟨Y 0 (fun a => ⟨0, by fin_cases a <;> decide⟩)⟩
  obtain ⟨X, hX⟩ := glue sltR disjS (fun j => (lift1 (Y j) : S1x512x512.Idx → Elt F .bf16))
  have h : (bigSep Finset.univ fun j : Fin 7 => owns (c : Thread nD τ) (rsSlt j) fullShare (Y j))
      = (bigSep Finset.univ fun j : Fin 7 => owns (c : Thread nD τ) (rsM.slice (sltR j) (fun _ => rfl)) fullShare (fun y => X ((sltR j).emb y)) : sProp 𝕄) :=
    congrArg _ (funext fun j => by rw [rs_slot, hX j])
  rw [h]
  iintro H
  iexists X
  iapply (owns_of_rects (c : Thread nD τ) rsM fullShare sltR (fun _ _ => rfl) disjS covS X); iexact H
theorem ot_join (Y : Fin 7 → S512x256.Idx → Elt F .bf16) :
    (bigSep Finset.univ fun j : Fin 7 => owns (c : Thread nD τ) (otSlt j) fullShare (Y j)) ⊢ (iprop(∃ X, owns (c : Thread nD τ) otM fullShare X) : sProp 𝕄) := by
  haveI : Nonempty (Elt F .bf16) := ⟨Y 0 (fun a => ⟨0, by fin_cases a <;> decide⟩)⟩
  obtain ⟨X, hX⟩ := glue sltO disjT (fun j => (lift2 (Y j) : S1x512x256.Idx → Elt F .bf16))
  have h : (bigSep Finset.univ fun j : Fin 7 => owns (c : Thread nD τ) (otSlt j) fullShare (Y j))
      = (bigSep Finset.univ fun j : Fin 7 => owns (c : Thread nD τ) (otM.slice (sltO j) (fun _ => rfl)) fullShare (fun y => X ((sltO j).emb y)) : sProp 𝕄) :=
    congrArg _ (funext fun j => by rw [ot_slot, hX j])
  rw [h]
  iintro H
  iexists X
  iapply (owns_of_rects (c : Thread nD τ) otM fullShare sltO (fun _ _ => rfl) disjT covT X); iexact H

/-! ## The narrowed weight, read by seven transfers and by the kernel at once -/

theorem wb_shares (X : S512x256.Idx → Elt F .bf16) : (owns (c : Thread nD τ) wbM fullShare X : sProp 𝕄)
    = iprop(owns (c : Thread nD τ) wbM (Transfers.shareDrop fullShare 7) X
        ∗ bigSep Finset.univ fun t : Fin 7 => owns (c : Thread nD τ) wbM (Transfers.shareTok fullShare 7 t) X) := by
  simp only [show ∀ q, (owns (c : Thread nD τ) wbM q X : sProp 𝕄) = ((c : Thread nD τ).loc cc0_scratch3 ↦{q} X) from
    fun q => owns_whole (c : Thread nD τ) cc0_scratch3 q X]
  have h₁ : ((c : Thread nD τ).loc cc0_scratch3 ↦{fullShare} X : sProp 𝕄)
      ⊢ iprop(((c : Thread nD τ).loc cc0_scratch3 ↦{Transfers.shareDrop fullShare 7} X)
        ∗ bigSep Finset.univ fun t : Fin 7 => (c : Thread nD τ).loc cc0_scratch3 ↦{Transfers.shareTok fullShare 7 t} X) := Transfers.pointsTo_toks_split fullShare 7
  have h₂ : iprop(((c : Thread nD τ).loc cc0_scratch3 ↦{Transfers.shareDrop fullShare 7} X)
        ∗ bigSep Finset.univ fun t : Fin 7 => (c : Thread nD τ).loc cc0_scratch3 ↦{Transfers.shareTok fullShare 7 t} X)
      ⊢ ((c : Thread nD τ).loc cc0_scratch3 ↦{fullShare} X : sProp 𝕄) := Transfers.pointsTo_toks_join fullShare 7
  exact BI.equiv_iff.mp ⟨h₁, h₂⟩

end Cert.KernelIdealRun

end
-- ==== Proof.KernelIdealParts.lean ====
/-
The kernel's printed parts, each from the state before it to the state after it.
-/
module

public import proofs.«01_k».proof.Proof.KernelIdealSplit
public import Idealize.ShloMosaic.Lib.Pipeline.Value

@[expose] public section

set_option maxRecDepth 8000

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-- A printed part at the kernel's own buffers and semaphore arrays. -/
abbrev onBufs {β : Type _}
    (f : (arg0 : Memref sig .tc .vmem S4096x512 .f32) → arg0.IsWhole → (arg1 : Memref sig .tc .vmem S512x512 .f32) → arg1.IsWhole
      → (arg2 : Memref sig .tc .vmem S512x256 .f32) → arg2.IsWhole → (arg3 : Memref sig .tc .vmem S4096x256 .f32) → arg3.IsWhole
      → (arg4 : Memref sig .tc .vmem S4096x512 .f32) → arg4.IsWhole → (arg5 : Memref sig .tc .vmem S4096x512 .bf16) → arg5.IsWhole
      → (arg6 : Memref sig .tc .vmem S512x512 .bf16) → arg6.IsWhole → (arg7 : Memref sig .tc .vmem S512x256 .bf16) → arg7.IsWhole
      → (arg8 : Memref sig .tc .vmem S512x2048 .bf16) → arg8.IsWhole → (arg9 : Memref sig .tc .vmem S512x2048 .f32) → arg9.IsWhole
      → (arg10 : Memref sig .tc .vmem S512x2048 .bf16) → arg10.IsWhole → (arg11 : Memref sig .tc .vmem S7x512x512 .bf16) → arg11.IsWhole
      → (arg12 : Memref sig .tc .vmem S7x512x256 .bf16) → arg12.IsWhole
      → DmaSems sig S7 → DmaSems sig S7 → DmaSems sig S7 → DmaSems sig S7 → DmaSems sig S7 → DmaSems sig S7 → Sems sig S_ → β) : β :=
  f xM (Memref.isWhole_whole _) w1M (Memref.isWhole_whole _) w2M (Memref.isWhole_whole _) oM (Memref.isWhole_whole _)
    hM (Memref.isWhole_whole _) hbM (Memref.isWhole_whole _) hcM (Memref.isWhole_whole _) wbM (Memref.isWhole_whole _)
    wfM (Memref.isWhole_whole _) ocM (Memref.isWhole_whole _) obM (Memref.isWhole_whole _) rsM (Memref.isWhole_whole _)
    otM (Memref.isWhole_whole _) cc0_scratch9 cc0_scratch10 cc0_scratch11 cc0_scratch12 cc0_scratch13 cc0_scratch14 cc0_scoped0

abbrev barA : Sems sig S_ := SemArray.scalar (sig.barrier 0 rfl)

theorem hz2 : (![0, 0] : Fin 2 → ℕ) = fun _ => 0 := funext fun a => by fin_cases a <;> rfl

theorem inb7 : ∀ (j : Fin 7) (a), (![j.val] : Fin 1 → ℕ) a + S1.size a ≤ S7.size a := by decide
/-- Entry `j` of a semaphore array, as the kernel names it. -/
abbrev entry (A : DmaSems sig S7) (j : Fin 7) : DmaSem sig := ((A.slice (Rect.unit (s := S7) ![j.val] S1.size (inb7 j))).squeeze S_ squeezes_S1_S_).sem
theorem sem_w0 (j : Fin 7) : entry cc0_scratch9 j = dsem 0 j := by revert j; decide
theorem sem_w1 (j : Fin 7) : entry cc0_scratch10 j = dsem 1 j := by revert j; decide
theorem sem_r0 (j : Fin 7) : entry cc0_scratch11 j = dsem 2 j := by revert j; decide
theorem sem_r1 (j : Fin 7) : entry cc0_scratch12 j = dsem 3 j := by revert j; decide
theorem sem_o0 (j : Fin 7) : entry cc0_scratch13 j = dsem 4 j := by revert j; decide
theorem sem_o1 (j : Fin 7) : entry cc0_scratch14 j = dsem 5 j := by revert j; decide
theorem sem_bar : (barA : Sems sig S_).sem = sigS 0 := rfl
theorem sem_exit : (cc0_scoped0 : Sems sig S_).sem = sigS 1 := rfl
theorem dev1 : (⟨k0_dev1 c, k0_dev1_lt c⟩ : Dev nD) = peer c 0 := Fin.ext (k0_dev1_eq c)
theorem dev2 : (⟨k0_dev2 c, k0_dev2_lt c⟩ : Dev nD) = peer c 1 := Fin.ext (k0_dev2_eq c)
theorem dev3 : (⟨k0_dev3 c, k0_dev3_lt c⟩ : Dev nD) = peer c 2 := Fin.ext (k0_dev3_eq c)
theorem dev4 : (⟨k0_dev4 c, k0_dev4_lt c⟩ : Dev nD) = peer c 3 := Fin.ext (k0_dev4_eq c)
theorem dev5 : (⟨k0_dev5 c, k0_dev5_lt c⟩ : Dev nD) = peer c 4 := Fin.ext (k0_dev5_eq c)
theorem dev6 : (⟨k0_dev6 c, k0_dev6_lt c⟩ : Dev nD) = peer c 5 := Fin.ext (k0_dev6_eq c)
theorem dev7 : (⟨k0_dev7 c, k0_dev7_lt c⟩ : Dev nD) = peer c 6 := Fin.ext (k0_dev7_eq c)
theorem dev8 : (⟨k0_dev8 c, k0_dev8_lt c⟩ : Dev nD) = peer c 0 := Fin.ext (k0_dev8_eq c)
theorem dev9 : (⟨k0_dev9 c, k0_dev9_lt c⟩ : Dev nD) = peer c 1 := Fin.ext (k0_dev9_eq c)
theorem dev10 : (⟨k0_dev10 c, k0_dev10_lt c⟩ : Dev nD) = peer c 2 := Fin.ext (k0_dev10_eq c)
theorem dev11 : (⟨k0_dev11 c, k0_dev11_lt c⟩ : Dev nD) = peer c 3 := Fin.ext (k0_dev11_eq c)
theorem dev12 : (⟨k0_dev12 c, k0_dev12_lt c⟩ : Dev nD) = peer c 4 := Fin.ext (k0_dev12_eq c)
theorem dev13 : (⟨k0_dev13 c, k0_dev13_lt c⟩ : Dev nD) = peer c 5 := Fin.ext (k0_dev13_eq c)
theorem dev14 : (⟨k0_dev14 c, k0_dev14_lt c⟩ : Dev nD) = peer c 6 := Fin.ext (k0_dev14_eq c)
theorem dev15 : (⟨k0_dev15 c, k0_dev15_lt c⟩ : Dev nD) = peer c 0 := Fin.ext (k0_dev15_eq c)
theorem dev16 : (⟨k0_dev16 c, k0_dev16_lt c⟩ : Dev nD) = peer c 1 := Fin.ext (k0_dev16_eq c)
theorem dev17 : (⟨k0_dev17 c, k0_dev17_lt c⟩ : Dev nD) = peer c 2 := Fin.ext (k0_dev17_eq c)
theorem dev18 : (⟨k0_dev18 c, k0_dev18_lt c⟩ : Dev nD) = peer c 3 := Fin.ext (k0_dev18_eq c)
theorem dev19 : (⟨k0_dev19 c, k0_dev19_lt c⟩ : Dev nD) = peer c 4 := Fin.ext (k0_dev19_eq c)
theorem dev20 : (⟨k0_dev20 c, k0_dev20_lt c⟩ : Dev nD) = peer c 5 := Fin.ext (k0_dev20_eq c)
theorem dev21 : (⟨k0_dev21 c, k0_dev21_lt c⟩ : Dev nD) = peer c 6 := Fin.ext (k0_dev21_eq c)
theorem dev22 : (⟨k0_dev22 c, k0_dev22_lt c⟩ : Dev nD) = peer c 0 := Fin.ext (k0_dev22_eq c)
theorem dev23 : (⟨k0_dev23 c, k0_dev23_lt c⟩ : Dev nD) = peer c 1 := Fin.ext (k0_dev23_eq c)
theorem dev24 : (⟨k0_dev24 c, k0_dev24_lt c⟩ : Dev nD) = peer c 2 := Fin.ext (k0_dev24_eq c)
theorem dev25 : (⟨k0_dev25 c, k0_dev25_lt c⟩ : Dev nD) = peer c 3 := Fin.ext (k0_dev25_eq c)
theorem dev26 : (⟨k0_dev26 c, k0_dev26_lt c⟩ : Dev nD) = peer c 4 := Fin.ext (k0_dev26_eq c)
theorem dev27 : (⟨k0_dev27 c, k0_dev27_lt c⟩ : Dev nD) = peer c 5 := Fin.ext (k0_dev27_eq c)
theorem dev28 : (⟨k0_dev28 c, k0_dev28_lt c⟩ : Dev nD) = peer c 6 := Fin.ext (k0_dev28_eq c)
theorem dev29 : (⟨k0_dev29 c, k0_dev29_lt c⟩ : Dev nD) = peer c 0 := Fin.ext (k0_dev29_eq c)
theorem dev30 : (⟨k0_dev30 c, k0_dev30_lt c⟩ : Dev nD) = peer c 1 := Fin.ext (k0_dev30_eq c)
theorem dev31 : (⟨k0_dev31 c, k0_dev31_lt c⟩ : Dev nD) = peer c 2 := Fin.ext (k0_dev31_eq c)
theorem dev32 : (⟨k0_dev32 c, k0_dev32_lt c⟩ : Dev nD) = peer c 3 := Fin.ext (k0_dev32_eq c)
theorem dev33 : (⟨k0_dev33 c, k0_dev33_lt c⟩ : Dev nD) = peer c 4 := Fin.ext (k0_dev33_eq c)
theorem dev34 : (⟨k0_dev34 c, k0_dev34_lt c⟩ : Dev nD) = peer c 5 := Fin.ext (k0_dev34_eq c)
theorem dev35 : (⟨k0_dev35 c, k0_dev35_lt c⟩ : Dev nD) = peer c 6 := Fin.ext (k0_dev35_eq c)
theorem off3 (t : Fin 7) : k0_off3 c (BitVec.ofNat 32 t.val) = ![512 * (peer c t).val, 0] := k0_off3_eq c t
theorem off5 (t : Fin 7) : k0_off5 c (BitVec.ofNat 32 t.val) = ![0, 256 * (peer c t).val] := k0_off5_eq c t
theorem off7 (t : Fin 7) : k0_off7 c (BitVec.ofNat 32 t.val) = ![512 * (peer c (rv t)).val, 0] := by revert c t; decide +kernel

/-! ## From one phase to the next -/

theorem step_ret {α : Type} {Q : α → sProp 𝕄} {a : α} : Q a ⊢ WP c (.ret a) Q := by
  unfold WP
  rw [wp_ret]
  iintro H
  imodintro
  iexact H

/-- The load of a block of a memref owned whole, its value named. -/
theorem step_load_at {α : Type} {Q : α → sProp 𝕄} {s : Shape} {e : EltTy} (m : Memref sig .tc .vmem s e) (r : Rect s) (q : PosShare TreeShare)
    (X : s.Idx → Elt F e) (Y : r.shape.Idx → Elt F e) (hY : (fun i => X (r.emb i)) = Y)
    {hl : m.view.LoadsAt r.toLoadRect} {k : (r.toLoadRect.shape.Idx → Elt F e) → Prog (TpuEff nD τ sig (Elt F) Λ₀ .tc) α} :
    owns (c : Thread nD τ) m q X
      ⊢ iprop((owns (c : Thread nD τ) m q X -∗ WP c (k Y) Q) -∗ WP c (.op (.load m r.toLoadRect hl) k) Q) :=
  hY ▸ step_load_in c m r q X

/-- The store of a whole memref, the stored value named. -/
theorem step_store_as {α : Type} {Q : α → sProp 𝕄} {s : Shape} {e : EltTy} {off : Fin s.rank → ℕ} (hz : off = fun _ => 0) {inb : ∀ a, off a + s.size a ≤ s.size a}
    (m : Memref sig .tc .vmem s e) (w v : s.Idx → Elt F e) (hv : w = v)
    {hx : (m.access (Rect.unit off s.size inb)).Stores Finset.univ} {hm : Finset.univ = Finset.univ ∨ ∀ a, (Rect.unit off s.size inb).stride a = 1}
    {k : PUnit → Prog (TpuEff nD τ sig (Elt F) Λ₀ .tc) α} :
    iprop(∃ X, owns (c : Thread nD τ) m fullShare X)
      ⊢ iprop((owns (c : Thread nD τ) m fullShare v -∗ WP c (k ⟨⟩) Q)
          -∗ WP c (.op (.store m (Rect.unit off s.size inb) w Finset.univ hx hm) k) Q) :=
  hv ▸ step_storeW c hz m w

theorem wbV_eq : k0_pay1 (I.z c) = wbV I c := rfl
/-- The store of the device's column block of the gathered weight. -/
theorem step_store_wf {α : Type} {Q : α → sProp 𝕄} {off : Fin 2 → ℕ} (h : off = ![0, 256 * c.val]) {inb : ∀ a, off a + S512x256.size a ≤ S512x2048.size a}
    (w v : S512x256.Idx → Elt F .bf16) (hv : w = v)
    {hx : (wfM.access (Rect.unit (s := S512x2048) off S512x256.size inb)).Stores Finset.univ}
    {hm : Finset.univ = Finset.univ ∨ ∀ a, (Rect.unit (s := S512x2048) off S512x256.size inb).stride a = 1}
    {k : PUnit → Prog (TpuEff nD τ sig (Elt F) Λ₀ .tc) α} :
    iprop(∃ X, owns (c : Thread nD τ) (wfCol c) fullShare X)
      ⊢ iprop((owns (c : Thread nD τ) (wfCol c) fullShare v -∗ WP c (k ⟨⟩) Q)
          -∗ WP c (.op (.store wfM (Rect.unit (s := S512x2048) off S512x256.size inb) w Finset.univ hx hm) k) Q) := by
  subst hv
  exact step_store (s := S512x2048) c h (size := S512x256.size) (inb := inb) (inb' := inbC c) wfM w (hx := hx) (hm := hm) (k := k)

theorem wb_again : k0_pay2 (wbV I c) = wbV I c := shapeCast_self _ _
theorem hV_eq : k0_pay3 (I.x c) (I.w c) = hV I c := rfl
theorem hbV_eq : k0_pay4 (hV I c) = hbV I c := rfl
theorem obV_eq : k0_pay9 (ocV I c) = obV I c := rfl
theorem rows_at (X : S4096x512.Idx → Elt F .f32) {off : Fin 2 → ℕ} (s : Dev nD) (h : off = ![512 * s.val, 0])
    (p : ∀ a, off a + S512x512.size a ≤ S4096x512.size a) : (fun i => X ((Rect.unit (s := S4096x512) off S512x512.size p).emb i)) = rows X s := by
  subst h; rfl
theorem cols_at (X : S512x2048.Idx → Elt F .f32) {off : Fin 2 → ℕ} (s : Dev nD) (h : off = ![0, 256 * s.val])
    (p : ∀ a, off a + S512x256.size a ≤ S512x2048.size a) : (fun i => X ((Rect.unit (s := S512x2048) off S512x256.size p).emb i)) = cols X s := by
  subst h; rfl

/-- A phase of transfers starts with what its seven transfers take, kind by kind. -/
theorem ss_start (p : Fin 5) (m : Fin 6) {W A B C D : Fin 7 → sProp 𝕄} (hW : ∀ t, W t = iprop(A t ∗ B t ∗ C t ∗ D t)) {n : ℕ} (hn : n = 7 * p.val) :
    iprop(Core I K c n ∗ bigSep Finset.univ A ∗ bigSep Finset.univ B ∗ bigSep Finset.univ C ∗ bigSep Finset.univ D) ⊢ SS I K c p m W 0 := by
  subst hn
  have e : W = fun t => iprop(A t ∗ B t ∗ C t ∗ D t) := funext hW
  unfold SS
  rw [rem_all, don_none, e, bigSep_sep', bigSep_sep', bigSep_sep']
  iintro ⟨HC, HA, HB, HC', HD⟩
  isplitl [HC]; · iexact HC
  isplitl
  · isplitl [HA]; · iexact HA
    isplitl [HB]; · iexact HB
    isplitl [HC']; · iexact HC'
    iexact HD
  iempintro
theorem ss_end (p : Fin 5) (m : Fin 6) {W : Fin 7 → sProp 𝕄} {n : ℕ} (hn : n = 7 * p.val + 7) :
    SS I K c p m W 7 ⊢ iprop(Core I K c n ∗ bigSep Finset.univ fun t => crd c (.inr (m, t))) := by
  subst hn
  unfold SS
  rw [don_all]
  iintro ⟨HC, _, HD⟩
  isplitl [HC]; · iexact HC
  iexact HD

/-- The seven waits on an array start with the credits and the positions, and end with the positions and what came. -/
theorem sv_start (m : Fin 6) (σ : Fin 7 → Fin 7) (hσ : ∀ Φ : Fin 7 → sProp 𝕄, bigSep Finset.univ (fun u => Φ (σ u)) = bigSep Finset.univ Φ) :
    iprop((bigSep Finset.univ fun j => crd c (.inr (m, j))) ∗ bigSep Finset.univ fun j => pos0 c (.inr (m, j))) ⊢ SV I c m σ 0 := by
  unfold SV
  rw [rem_all, don_none, hσ (fun j => iprop(crd c (.inr (m, j)) ∗ pos0 c (.inr (m, j)))), bigSep_sep']
  iintro ⟨HC, HD⟩
  isplitl
  · isplitl [HC]; · iexact HC
    iexact HD
  iempintro
theorem sv_end (m : Fin 6) (σ : Fin 7 → Fin 7) (hσ : ∀ Φ : Fin 7 → sProp 𝕄, bigSep Finset.univ (fun u => Φ (σ u)) = bigSep Finset.univ Φ) :
    SV I c m σ 7 ⊢ iprop((bigSep Finset.univ fun j => pos1 c (.inr (m, j))) ∗ bigSep Finset.univ fun j => dpay I m j c) := by
  unfold SV
  rw [don_all, hσ (fun j => iprop(pos1 c (.inr (m, j)) ∗ dpay I m j c)), bigSep_sep']
  iintro ⟨_, HD⟩
  iexact HD
theorem cv_mk (n : ℕ) (m : Fin 6) (σ : Fin 7 → Fin 7) (u : ℕ) : iprop(Core I K c n ∗ SV I c m σ u) = CV I K c n m σ u := rfl

/-- What the seven arrivals at the entry barrier bring: the places on the partners that this device writes. -/
theorem lands : (bigSep Finset.univ (fun t => payK I (.inl 0) c t)) ⊢
    iprop((bigSep Finset.univ fun t : Fin 7 => iprop(∃ Y, owns (peer c t : Thread nD τ) (wfCol c) fullShare Y))
      ∗ (bigSep Finset.univ fun t : Fin 7 => iprop(∃ Y, owns (peer c t : Thread nD τ) (rsSlt (rv t)) fullShare Y))
      ∗ bigSep Finset.univ fun t : Fin 7 => iprop(∃ Y, owns (peer c t : Thread nD τ) (otSlt (rv t)) fullShare Y)) := by
  have e : (fun t => payK I (.inl 0) c t) = fun t => iprop((∃ Y, owns (peer c t : Thread nD τ) (wfCol c) fullShare Y)
      ∗ (∃ Y, owns (peer c t : Thread nD τ) (rsSlt (rv t)) fullShare Y) ∗ (∃ Y, owns (peer c t : Thread nD τ) (otSlt (rv t)) fullShare Y)) := by
    funext t
    show Land (peer c t) (rv t) = _
    unfold Land
    rw [peer_peer]
  rw [e, bigSep_sep', bigSep_sep']

/-! ## The parts -/

theorem se_start : iprop(Core I K c 28 ∗ bigSep Finset.univ fun t : Fin 7 => tok c (4, t)) ⊢ SE I K c 0 := by
  unfold SE
  rw [rem_all]

theorem part1 {Q : _ → sProp 𝕄} :
    SB I K c 0
      ⊢ iprop((∀ (a b d : BitVec 32), SB I K c 5 -∗ Q ⟨c, a, barA, b, d⟩) -∗ WP c (onBufs (k0_part1 (F := F))) Q) := by
  simp only [onBufs, k0_part1_eq_skeleton]
  unfold k0_part1_skel
  simp only [semSignalWord, semWaitWord, Prog.lift, Prog.bind_op, Prog.bind_ret, Prog.pure_eq_ret, wp_deviceId]
  iintro H Hk
  iapply (sig_step I K c 0 (n := 0) (n' := 1) rfl rfl sem_bar (dev1 c) (by rfl)) $$ H; iintro H
  iapply (sig_step I K c 1 (n := 1) (n' := 2) rfl rfl sem_bar (dev2 c) (by rfl)) $$ H; iintro H
  iapply (sig_step I K c 2 (n := 2) (n' := 3) rfl rfl sem_bar (dev3 c) (by rfl)) $$ H; iintro H
  iapply (sig_step I K c 3 (n := 3) (n' := 4) rfl rfl sem_bar (dev4 c) (by rfl)) $$ H; iintro H
  iapply (sig_step I K c 4 (n := 4) (n' := 5) rfl rfl sem_bar (dev5 c) (by rfl)) $$ H; iintro H
  iapply step_ret
  iapply Hk $$ %_ %_ %_
  iexact H

theorem sb_end : SB I K c 7 ⊢ Core I K c 7 := by
  unfold SB
  iintro ⟨H, _, _⟩
  iexact H

theorem part2 {Q : _ → sProp 𝕄} {v2 v24 c8 : BitVec 32} :
    iprop(SB I K c 5 ∗ (crd c (.inl 0) ∗ pos0 c (.inl 0)) ∗ owns (c : Thread nD τ) w2M fullShare (I.z c) ∗ (∃ X, owns (c : Thread nD τ) wbM fullShare X)
        ∗ (bigSep Finset.univ fun t : Fin 7 => stok c 0 t) ∗ (bigSep Finset.univ fun t : Fin 7 => tok c (1, t)))
      ⊢ iprop((∀ (a b : BitVec 32), (SW I K c 1 ∗ pos1 c (.inl 0) ∗ owns (c : Thread nD τ) w2M fullShare (I.z c) ∗ owns (c : Thread nD τ) wbM (Transfers.shareDrop fullShare 7) (wbV I c)
        ∗ (bigSep Finset.univ fun t : Fin 7 => iprop(∃ Y, owns (peer c t : Thread nD τ) (rsSlt (rv t)) fullShare Y)) ∗ (bigSep Finset.univ fun t : Fin 7 => iprop(∃ Y, owns (peer c t : Thread nD τ) (otSlt (rv t)) fullShare Y))) -∗ Q ⟨a, b⟩) -∗ WP c (onBufs (k0_part2 (F := F)) c v2 barA v24 c8) Q) := by
  simp only [onBufs, k0_part2_eq_skeleton]
  unfold k0_part2_skel
  simp only [semSignalWord, semWaitWord, Prog.lift, Prog.bind_op, Prog.bind_ret, Prog.pure_eq_ret, wp_deviceId]
  iintro ⟨H, ⟨Hc, Hp⟩, Hz, ⟨%X, Hb⟩, Hs, Ht⟩ Hk
  iapply (sig_step I K c 5 (n := 5) (n' := 6) rfl rfl sem_bar (dev6 c) (by rfl)) $$ H; iintro H
  iapply (sig_step I K c 6 (n := 6) (n' := 7) rfl rfl sem_bar (dev7 c) (by rfl)) $$ H; iintro H
  ihave H := (sb_end I K c) $$ H
  unfold Core
  icases H with ⟨#HR, HO⟩
  iapply (step_waitS I K c 0 7 ok_bar sem_bar (by rfl)) $$ [HO Hc Hp]
  · isplitr; · iexact HR
    isplitl [HO]; · iexact HO
    isplitl [Hc]; · iexact Hc
    iexact Hp
  iintro ⟨HO, Hp, HL⟩
  ihave HL := (lands I c) $$ HL
  icases HL with ⟨HW, HLr, HLo⟩
  iapply (step_loadW c hz2 w2M fullShare (I.z c)) $$ Hz; iintro Hz
  iapply (step_loadW c hz2 wbM fullShare X) $$ Hb; iintro Hb
  iapply (step_store_as c hz2 wbM _ _ (wbV_eq I c)) $$ [Hb]
  · iexists X; iexact Hb
  iintro Hb
  ihave Hb := (Entails.of_eq (wb_shares c (wbV I c))) $$ Hb
  icases Hb with ⟨Hb, Hbs⟩
  ihave H := (show _ ⊢ SW I K c 0 from ss_start I K c 1 0 (fun _ => rfl) (n := 7) (by rfl)) $$ [HO HW Hbs Hs Ht]
  · isplitl [HO]
    · unfold Core; isplitr; · iexact HR
      iexact HO
    isplitl [Hbs]; · iexact Hbs
    isplitl [HW]; · iexact HW
    isplitl [Hs]; · iexact Hs
    iexact Ht
  iapply (w_step I K c 0 (n := 0) (n' := 1) rfl rfl (k0_off1_eq c) (sem_w0 0) (sem_w1 (rv 0)) (dev8 c)) $$ H; iintro H
  iapply step_ret
  iapply Hk $$ %_ %_
  isplitl [H]; · iexact H
  isplitl [Hp]; · iexact Hp
  isplitl [Hz]; · iexact Hz
  isplitl [Hb]; · iexact Hb
  isplitl [HLr]; · iexact HLr
  iexact HLo

theorem part3 {Q : _ → sProp 𝕄} {v2 v51 : BitVec 32} :
    SW I K c 1
      ⊢ iprop((∀ (a b e f : BitVec 32), SW I K c 4 -∗ Q ⟨a, b, e, f⟩) -∗ WP c (onBufs (k0_part3 (F := F)) c v2 v51) Q) := by
  simp only [onBufs, k0_part3_eq_skeleton]
  unfold k0_part3_skel
  simp only [semSignalWord, semWaitWord, Prog.lift, Prog.bind_op, Prog.bind_ret, Prog.pure_eq_ret, wp_deviceId]
  iintro H Hk
  iapply (w_step I K c 1 (n := 1) (n' := 2) rfl rfl (k0_off1_eq c) (sem_w0 1) (sem_w1 (rv 1)) (dev9 c)) $$ H; iintro H
  iapply (w_step I K c 2 (n := 2) (n' := 3) rfl rfl (k0_off1_eq c) (sem_w0 2) (sem_w1 (rv 2)) (dev10 c)) $$ H; iintro H
  iapply (w_step I K c 3 (n := 3) (n' := 4) rfl rfl (k0_off1_eq c) (sem_w0 3) (sem_w1 (rv 3)) (dev11 c)) $$ H; iintro H
  iapply step_ret
  iapply Hk $$ %_ %_ %_ %_
  iexact H

theorem part4 {Q : _ → sProp 𝕄} {v2 v83 c8 : BitVec 32} :
    SW I K c 4
      ⊢ iprop((∀ (a b e : BitVec 32), SW I K c 7 -∗ Q ⟨a, b, e⟩) -∗ WP c (onBufs (k0_part4 (F := F)) c v2 v83 c8) Q) := by
  simp only [onBufs, k0_part4_eq_skeleton]
  unfold k0_part4_skel
  simp only [semSignalWord, semWaitWord, Prog.lift, Prog.bind_op, Prog.bind_ret, Prog.pure_eq_ret, wp_deviceId]
  iintro H Hk
  iapply (w_step I K c 4 (n := 4) (n' := 5) rfl rfl (k0_off1_eq c) (sem_w0 4) (sem_w1 (rv 4)) (dev12 c)) $$ H; iintro H
  iapply (w_step I K c 5 (n := 5) (n' := 6) rfl rfl (k0_off1_eq c) (sem_w0 5) (sem_w1 (rv 5)) (dev13 c)) $$ H; iintro H
  iapply (w_step I K c 6 (n := 6) (n' := 7) rfl rfl (k0_off1_eq c) (sem_w0 6) (sem_w1 (rv 6)) (dev14 c)) $$ H; iintro H
  iapply step_ret
  iapply Hk $$ %_ %_ %_
  iexact H

theorem part5 {Q : _ → sProp 𝕄} {v2 : BitVec 32} :
    iprop(owns (c : Thread nD τ) wbM (Transfers.shareDrop fullShare 7) (wbV I c) ∗ (∃ X, owns (c : Thread nD τ) (wfCol c) fullShare X) ∗ owns (c : Thread nD τ) xM fullShare (I.x c) ∗ owns (c : Thread nD τ) w1M fullShare (I.w c)
        ∗ (∃ X, owns (c : Thread nD τ) hM fullShare X) ∗ (∃ X, owns (c : Thread nD τ) hbM fullShare X))
      ⊢ iprop((∀ (a : BitVec 32), (owns (c : Thread nD τ) wbM (Transfers.shareDrop fullShare 7) (wbV I c) ∗ owns (c : Thread nD τ) (wfCol c) fullShare (wbV I c) ∗ owns (c : Thread nD τ) xM fullShare (I.x c) ∗ owns (c : Thread nD τ) w1M fullShare (I.w c)
        ∗ owns (c : Thread nD τ) hM fullShare (hV I c) ∗ owns (c : Thread nD τ) hbM fullShare (hbV I c)) -∗ Q a) -∗ WP c (onBufs (k0_part5 (F := F)) c v2) Q) := by
  simp only [onBufs, k0_part5_eq_skeleton]
  unfold k0_part5_skel
  simp only [semSignalWord, semWaitWord, Prog.lift, Prog.bind_op, Prog.bind_ret, Prog.pure_eq_ret, wp_deviceId]
  iintro ⟨Hb, ⟨%Xf, Hf⟩, Hx, Hw, ⟨%Xh, Hh⟩, ⟨%Xn, Hn⟩⟩ Hk
  iapply (step_loadW c hz2 wbM (Transfers.shareDrop fullShare 7) (wbV I c)) $$ Hb; iintro Hb
  iapply (step_load c (k0_off2_eq c) wfM fullShare Xf) $$ Hf; iintro Hf
  iapply (step_store_wf c (k0_off2_eq c) _ _ (wb_again I c)) $$ [Hf]
  · iexists Xf; iexact Hf
  iintro Hf
  iapply (step_loadW c hz2 xM fullShare (I.x c)) $$ Hx; iintro Hx
  iapply (step_loadW c hz2 w1M fullShare (I.w c)) $$ Hw; iintro Hw
  iapply (step_loadW c hz2 hM fullShare Xh) $$ Hh; iintro Hh
  iapply (step_store_as c hz2 hM _ _ (hV_eq I c)) $$ [Hh]
  · iexists Xh; iexact Hh
  iintro Hh
  iapply (step_loadW c hz2 hM fullShare (hV I c)) $$ Hh; iintro Hh
  iapply (step_loadW c hz2 hbM fullShare Xn) $$ Hn; iintro Hn
  iapply (step_store_as c hz2 hbM _ _ (hbV_eq I c)) $$ [Hn]
  · iexists Xn; iexact Hn
  iintro Hn
  iapply step_ret
  iapply Hk $$ %_
  isplitl [Hb]; · iexact Hb
  isplitl [Hf]; · iexact Hf
  isplitl [Hx]; · iexact Hx
  isplitl [Hw]; · iexact Hw
  isplitl [Hh]; · iexact Hh
  iexact Hn

theorem part6 {Q : _ → sProp 𝕄} {v2 : BitVec 32} :
    SR I K c 0
      ⊢ iprop((∀ (a b e f : BitVec 32), SR I K c 3 -∗ Q ⟨a, b, e, f⟩) -∗ WP c (onBufs (k0_part6 (F := F)) c v2) Q) := by
  simp only [onBufs, k0_part6_eq_skeleton]
  unfold k0_part6_skel
  simp only [semSignalWord, semWaitWord, Prog.lift, Prog.bind_op, Prog.bind_ret, Prog.pure_eq_ret, wp_deviceId]
  iintro H Hk
  iapply (r_step I K c 0 (n := 0) (n' := 1) rfl rfl (off3 c 0) (by rfl) (sem_r0 0) (sem_r1 (rv 0)) (dev15 c)) $$ H; iintro H
  iapply (r_step I K c 1 (n := 1) (n' := 2) rfl rfl (off3 c 1) (by rfl) (sem_r0 1) (sem_r1 (rv 1)) (dev16 c)) $$ H; iintro H
  iapply (r_step I K c 2 (n := 2) (n' := 3) rfl rfl (off3 c 2) (by rfl) (sem_r0 2) (sem_r1 (rv 2)) (dev17 c)) $$ H; iintro H
  iapply step_ret
  iapply Hk $$ %_ %_ %_ %_
  iexact H

theorem part7 {Q : _ → sProp 𝕄} {v2 v175 k : BitVec 32} :
    SR I K c 3
      ⊢ iprop((∀ (a b : BitVec 32), SR I K c 5 -∗ Q ⟨a, b⟩) -∗ WP c (onBufs (k0_part7 (F := F)) c v2 v175 k) Q) := by
  simp only [onBufs, k0_part7_eq_skeleton]
  unfold k0_part7_skel
  simp only [semSignalWord, semWaitWord, Prog.lift, Prog.bind_op, Prog.bind_ret, Prog.pure_eq_ret, wp_deviceId]
  iintro H Hk
  iapply (r_step I K c 3 (n := 3) (n' := 4) rfl rfl (off3 c 3) (by rfl) (sem_r0 3) (sem_r1 (rv 3)) (dev18 c)) $$ H; iintro H
  iapply (r_step I K c 4 (n := 4) (n' := 5) rfl rfl (off3 c 4) (by rfl) (sem_r0 4) (sem_r1 (rv 4)) (dev19 c)) $$ H; iintro H
  iapply step_ret
  iapply Hk $$ %_ %_
  iexact H

theorem part8 {Q : _ → sProp 𝕄} {v2 v136 : BitVec 32} :
    iprop(SR I K c 5 ∗ owns (c : Thread nD τ) hM fullShare (hV I c) ∗ SV I c 3 rv 0)
      ⊢ iprop((∀ a : BitVec 32, ((bigSep Finset.univ fun t : Fin 7 => crd c (.inr (2, t))) ∗ owns (c : Thread nD τ) hM fullShare (hV I c) ∗ CV I K c 21 3 rv 1) -∗ Q ⟨a, rows (hV I c) c⟩) -∗ WP c (onBufs (k0_part8 (F := F)) c v2 v136) Q) := by
  simp only [onBufs, k0_part8_eq_skeleton]
  unfold k0_part8_skel
  simp only [semSignalWord, semWaitWord, Prog.lift, Prog.bind_op, Prog.bind_ret, Prog.pure_eq_ret, wp_deviceId]
  iintro ⟨H, Hh, Hv⟩ Hk
  iapply (r_step I K c 5 (n := 5) (n' := 6) rfl rfl (off3 c 5) (by rfl) (sem_r0 5) (sem_r1 (rv 5)) (dev20 c)) $$ H; iintro H
  iapply (r_step I K c 6 (n := 6) (n' := 7) rfl rfl (off3 c 6) (by rfl) (sem_r0 6) (sem_r1 (rv 6)) (dev21 c)) $$ H; iintro H
  ihave H := (show SR I K c 7 ⊢ _ from ss_end I K c 2 2 (n := 21) (by rfl)) $$ H
  icases H with ⟨H, Hc⟩
  iapply (step_load_at c hM _ fullShare (hV I c) (rows (hV I c) c) (rows_at (hV I c) c (k0_off4_eq c) _)) $$ Hh; iintro Hh
  ihave H := (Entails.of_eq (cv_mk I K c 21 3 rv 0)) $$ [H Hv]
  · isplitl [H]; · iexact H
    iexact Hv
  iapply (wait_step I K c 3 rv 21 0 (v := 0) (v' := 1) rfl rfl ok_rs (sem_r1 (rv 0)) (by rfl)) $$ H; iintro H
  iapply step_ret
  iapply Hk $$ %_
  isplitl [Hc]; · iexact Hc
  isplitl [Hh]; · iexact Hh
  iexact H

theorem part9 {Q : _ → sProp 𝕄} {a b d : BitVec 32} {v227 : Vec F S512x512 .f32} :
    CV I K c 21 3 rv 1
      ⊢ iprop((CV I K c 21 3 rv 3 -∗ Q (k0_pay5 v227 (lift1 (rsV I c (rv 0))) (lift1 (rsV I c (rv 1))) (lift1 (rsV I c (rv 2))))) -∗ WP c (onBufs (k0_part9 (F := F)) c a b d v227) Q) := by
  simp only [onBufs, k0_part9_eq_skeleton]
  unfold k0_part9_skel
  simp only [semSignalWord, semWaitWord, Prog.lift, Prog.bind_op, Prog.bind_ret, Prog.pure_eq_ret, wp_deviceId]
  iintro H Hk
  iapply (slot_rs I K c 21 0 (v := 1) rfl (by rfl)) $$ H; iintro H
  iapply (wait_step I K c 3 rv 21 1 (v := 1) (v' := 2) rfl rfl ok_rs (sem_r1 (rv 1)) (by rfl)) $$ H; iintro H
  iapply (slot_rs I K c 21 1 (v := 2) rfl (by rfl)) $$ H; iintro H
  iapply (wait_step I K c 3 rv 21 2 (v := 2) (v' := 3) rfl rfl ok_rs (sem_r1 (rv 2)) (by rfl)) $$ H; iintro H
  iapply (slot_rs I K c 21 2 (v := 3) rfl (by rfl)) $$ H; iintro H
  iapply step_ret
  iapply Hk
  iexact H

theorem part10 {Q : _ → sProp 𝕄} {a b : BitVec 32} {v260 : FVec F S512x512 .f32} :
    CV I K c 21 3 rv 3
      ⊢ iprop((CV I K c 21 3 rv 6 -∗ Q (k0_pay6 v260 (lift1 (rsV I c (rv 3))) (lift1 (rsV I c (rv 4))) (lift1 (rsV I c (rv 5))))) -∗ WP c (onBufs (k0_part10 (F := F)) c a b v260) Q) := by
  simp only [onBufs, k0_part10_eq_skeleton]
  unfold k0_part10_skel
  simp only [semSignalWord, semWaitWord, Prog.lift, Prog.bind_op, Prog.bind_ret, Prog.pure_eq_ret, wp_deviceId]
  iintro H Hk
  iapply (wait_step I K c 3 rv 21 3 (v := 3) (v' := 4) rfl rfl ok_rs (sem_r1 (rv 3)) (by rfl)) $$ H; iintro H
  iapply (slot_rs I K c 21 3 (v := 4) rfl (by rfl)) $$ H; iintro H
  iapply (wait_step I K c 3 rv 21 4 (v := 4) (v' := 5) rfl rfl ok_rs (sem_r1 (rv 4)) (by rfl)) $$ H; iintro H
  iapply (slot_rs I K c 21 4 (v := 5) rfl (by rfl)) $$ H; iintro H
  iapply (wait_step I K c 3 rv 21 5 (v := 5) (v' := 6) rfl rfl ok_rs (sem_r1 (rv 5)) (by rfl)) $$ H; iintro H
  iapply (slot_rs I K c 21 5 (v := 6) rfl (by rfl)) $$ H; iintro H
  iapply step_ret
  iapply Hk
  iexact H

theorem part11 {Q : _ → sProp 𝕄} {a b d e : BitVec 32} {v293 : FVec F S512x512 .f32} {w : Vec F S512x512 .bf16}
    (hw : k0_pay7 v293 (lift1 (rsV I c (rv 6))) = w) :
    iprop(CV I K c 21 3 rv 6 ∗ SV I c 1 rv 0 ∗ (∃ X, owns (c : Thread nD τ) hcM fullShare X))
      ⊢ iprop(((SV I c 3 rv 7 ∗ CV I K c 21 1 rv 2 ∗ owns (c : Thread nD τ) hcM fullShare w) -∗ Q ⟨⟩) -∗ WP c (onBufs (k0_part11 (F := F)) c a b d e v293) Q) := by
  simp only [onBufs, k0_part11_eq_skeleton]
  unfold k0_part11_skel
  simp only [semSignalWord, semWaitWord, Prog.lift, Prog.bind_op, Prog.bind_ret, Prog.pure_eq_ret, wp_deviceId]
  iintro ⟨H, Hv, ⟨%X, Hh⟩⟩ Hk
  iapply (wait_step I K c 3 rv 21 6 (v := 6) (v' := 7) rfl rfl ok_rs (sem_r1 (rv 6)) (by rfl)) $$ H; iintro H
  iapply (slot_rs I K c 21 6 (v := 7) rfl (by rfl)) $$ H; iintro H
  iapply (step_loadW c hz2 hcM fullShare X) $$ Hh; iintro Hh
  iapply (step_store_as c hz2 hcM _ _ hw) $$ [Hh]
  · iexists X; iexact Hh
  iintro Hh
  ihave H := (Entails.of_eq (cv_mk I K c 21 3 rv 7).symm) $$ H
  icases H with ⟨H, Hr⟩
  ihave H := (Entails.of_eq (cv_mk I K c 21 1 rv 0)) $$ [H Hv]
  · isplitl [H]; · iexact H
    iexact Hv
  iapply (wait_step I K c 1 rv 21 0 (v := 0) (v' := 1) rfl rfl ok_w (sem_w1 (rv 0)) (by rfl)) $$ H; iintro H
  iapply (wait_step I K c 1 rv 21 1 (v := 1) (v' := 2) rfl rfl ok_w (sem_w1 (rv 1)) (by rfl)) $$ H; iintro H
  iapply step_ret
  iapply Hk
  isplitl [Hr]; · iexact Hr
  isplitl [H]; · iexact H
  iexact Hh

theorem part12 {Q : _ → sProp 𝕄} {a b d e : BitVec 32} :
    iprop(CV I K c 21 1 rv 2 ∗ owns (c : Thread nD τ) hcM fullShare (hcV I c) ∗ owns (c : Thread nD τ) (wfCol c) fullShare (wbV I c) ∗ (∃ X, owns (c : Thread nD τ) ocM fullShare X))
      ⊢ iprop(((Core I K c 21 ∗ (bigSep Finset.univ fun t : Fin 7 => pos1 c (.inr (1, t))) ∗ owns (c : Thread nD τ) hcM fullShare (hcV I c) ∗ owns (c : Thread nD τ) wfM fullShare (wfV I) ∗ (∃ X, owns (c : Thread nD τ) ocM fullShare X)) -∗ Q (k0_pay8 (hcV I c) (wfV I))) -∗ WP c (onBufs (k0_part12 (F := F)) c a b d e) Q) := by
  simp only [onBufs, k0_part12_eq_skeleton]
  unfold k0_part12_skel
  simp only [semSignalWord, semWaitWord, Prog.lift, Prog.bind_op, Prog.bind_ret, Prog.pure_eq_ret, wp_deviceId]
  iintro ⟨H, Hh, Hf, ⟨%X, Ho⟩⟩ Hk
  iapply (wait_step I K c 1 rv 21 2 (v := 2) (v' := 3) rfl rfl ok_w (sem_w1 (rv 2)) (by rfl)) $$ H; iintro H
  iapply (wait_step I K c 1 rv 21 3 (v := 3) (v' := 4) rfl rfl ok_w (sem_w1 (rv 3)) (by rfl)) $$ H; iintro H
  iapply (wait_step I K c 1 rv 21 4 (v := 4) (v' := 5) rfl rfl ok_w (sem_w1 (rv 4)) (by rfl)) $$ H; iintro H
  iapply (wait_step I K c 1 rv 21 5 (v := 5) (v' := 6) rfl rfl ok_w (sem_w1 (rv 5)) (by rfl)) $$ H; iintro H
  iapply (wait_step I K c 1 rv 21 6 (v := 6) (v' := 7) rfl rfl ok_w (sem_w1 (rv 6)) (by rfl)) $$ H; iintro H
  ihave H := (Entails.of_eq (cv_mk I K c 21 1 rv 7).symm) $$ H
  icases H with ⟨H, Hv⟩
  ihave Hv := (sv_end I c 1 rv (fun Φ => bigSep_rv Φ)) $$ Hv
  icases Hv with ⟨Hp, Hv⟩
  ihave Hf := (Entails.of_eq (wf_whole I c).symm) $$ [Hf Hv]
  · isplitl [Hf]; · iexact Hf
    iexact Hv
  iapply (step_loadW c hz2 hcM fullShare (hcV I c)) $$ Hh; iintro Hh
  iapply (step_loadW c hz2 wfM fullShare (wfV I)) $$ Hf; iintro Hf
  iapply (step_loadW c hz2 ocM fullShare X) $$ Ho; iintro Ho
  iapply step_ret
  iapply Hk
  isplitl [H]; · iexact H
  isplitl [Hp]; · iexact Hp
  isplitl [Hh]; · iexact Hh
  isplitl [Hf]; · iexact Hf
  iexists X; iexact Ho

theorem part13 {Q : _ → sProp 𝕄} {v2 : BitVec 32} {v349 : FVec F S512x2048 .f32} (hv : v349 = ocV I c) :
    iprop(Core I K c 21 ∗ (∃ X, owns (c : Thread nD τ) ocM fullShare X) ∗ (∃ X, owns (c : Thread nD τ) obM fullShare X) ∗ (bigSep Finset.univ fun t : Fin 7 => iprop(∃ Y, owns (peer c t : Thread nD τ) (otSlt (rv t)) fullShare Y)) ∗ (bigSep Finset.univ fun t : Fin 7 => stok c 4 t) ∗ (bigSep Finset.univ fun t : Fin 7 => tok c (3, t)))
      ⊢ iprop((∀ (a b : BitVec 32), (SO I K c 1 ∗ owns (c : Thread nD τ) ocM fullShare (ocV I c) ∗ owns (c : Thread nD τ) (obCol c) fullShare (cols (obV I c) c)) -∗ Q ⟨a, b⟩) -∗ WP c (onBufs (k0_part13 (F := F)) c v2 v349) Q) := by
  simp only [onBufs, k0_part13_eq_skeleton]
  unfold k0_part13_skel
  simp only [semSignalWord, semWaitWord, Prog.lift, Prog.bind_op, Prog.bind_ret, Prog.pure_eq_ret, wp_deviceId]
  iintro ⟨H, ⟨%X, Hc⟩, ⟨%Y, Hb⟩, HL, Hs, Ht⟩ Hk
  iapply (step_store_as c hz2 ocM _ _ hv) $$ [Hc]
  · iexists X; iexact Hc
  iintro Hc
  iapply (step_loadW c hz2 ocM fullShare (ocV I c)) $$ Hc; iintro Hc
  iapply (step_loadW c hz2 obM fullShare Y) $$ Hb; iintro Hb
  iapply (step_store_as c hz2 obM _ _ (obV_eq I c)) $$ [Hb]
  · iexists Y; iexact Hb
  iintro Hb
  ihave Hb := (Entails.of_eq (ob_whole c (obV I c))) $$ Hb
  icases Hb with ⟨Hb, Hbs⟩
  ihave H := (show _ ⊢ SO I K c 0 from ss_start I K c 3 4 (fun _ => rfl) (n := 21) (by rfl)) $$ [H HL Hbs Hs Ht]
  · isplitl [H]; · iexact H
    isplitl [Hbs]; · iexact Hbs
    isplitl [HL]; · iexact HL
    isplitl [Hs]; · iexact Hs
    iexact Ht
  iapply (o_step I K c 0 (n := 0) (n' := 1) rfl rfl (off5 c 0) (by rfl) (sem_o0 0) (sem_o1 (rv 0)) (dev22 c)) $$ H; iintro H
  iapply step_ret
  iapply Hk $$ %_ %_
  isplitl [H]; · iexact H
  isplitl [Hc]; · iexact Hc
  iexact Hb

theorem part14 {Q : _ → sProp 𝕄} {v2 : BitVec 32} :
    SO I K c 1
      ⊢ iprop((∀ (a b e f : BitVec 32), SO I K c 4 -∗ Q ⟨a, b, e, f⟩) -∗ WP c (onBufs (k0_part14 (F := F)) c v2) Q) := by
  simp only [onBufs, k0_part14_eq_skeleton]
  unfold k0_part14_skel
  simp only [semSignalWord, semWaitWord, Prog.lift, Prog.bind_op, Prog.bind_ret, Prog.pure_eq_ret, wp_deviceId]
  iintro H Hk
  iapply (o_step I K c 1 (n := 1) (n' := 2) rfl rfl (off5 c 1) (by rfl) (sem_o0 1) (sem_o1 (rv 1)) (dev23 c)) $$ H; iintro H
  iapply (o_step I K c 2 (n := 2) (n' := 3) rfl rfl (off5 c 2) (by rfl) (sem_o0 2) (sem_o1 (rv 2)) (dev24 c)) $$ H; iintro H
  iapply (o_step I K c 3 (n := 3) (n' := 4) rfl rfl (off5 c 3) (by rfl) (sem_o0 3) (sem_o1 (rv 3)) (dev25 c)) $$ H; iintro H
  iapply step_ret
  iapply Hk $$ %_ %_ %_ %_
  iexact H

theorem part15 {Q : _ → sProp 𝕄} {v2 v408 c8 : BitVec 32} :
    SO I K c 4
      ⊢ iprop((∀ (a b e f : BitVec 32), SO I K c 6 -∗ Q ⟨a, b, e, f⟩) -∗ WP c (onBufs (k0_part15 (F := F)) c v2 v408 c8) Q) := by
  simp only [onBufs, k0_part15_eq_skeleton]
  unfold k0_part15_skel
  simp only [semSignalWord, semWaitWord, Prog.lift, Prog.bind_op, Prog.bind_ret, Prog.pure_eq_ret, wp_deviceId]
  iintro H Hk
  iapply (o_step I K c 4 (n := 4) (n' := 5) rfl rfl (off5 c 4) (by rfl) (sem_o0 4) (sem_o1 (rv 4)) (dev26 c)) $$ H; iintro H
  iapply (o_step I K c 5 (n := 5) (n' := 6) rfl rfl (off5 c 5) (by rfl) (sem_o0 5) (sem_o1 (rv 5)) (dev27 c)) $$ H; iintro H
  iapply step_ret
  iapply Hk $$ %_ %_ %_ %_
  iexact H

theorem part16 {Q : _ → sProp 𝕄} {v2 a b : BitVec 32} :
    iprop(SO I K c 6 ∗ owns (c : Thread nD τ) ocM fullShare (ocV I c) ∗ (∃ X, owns (c : Thread nD τ) (oRow c) fullShare X) ∗ SV I c 5 rv 0 ∗ OB I c 0)
      ⊢ iprop((((bigSep Finset.univ fun t : Fin 7 => crd c (.inr (4, t))) ∗ owns (c : Thread nD τ) ocM fullShare (ocV I c) ∗ owns (c : Thread nD τ) (oRow c) fullShare (outB I c c) ∗ CV I K c 28 5 rv 1 ∗ OB I c 1) -∗ Q ⟨⟩) -∗ WP c (onBufs (k0_part16 (F := F)) c v2 a b) Q) := by
  simp only [onBufs, k0_part16_eq_skeleton]
  unfold k0_part16_skel
  simp only [semSignalWord, semWaitWord, Prog.lift, Prog.bind_op, Prog.bind_ret, Prog.pure_eq_ret, wp_deviceId]
  iintro ⟨H, Hc, ⟨%X, Ho⟩, Hv, HB⟩ Hk
  iapply (o_step I K c 6 (n := 6) (n' := 7) rfl rfl (off5 c 6) (by rfl) (sem_o0 6) (sem_o1 (rv 6)) (dev28 c)) $$ H; iintro H
  ihave H := (show SO I K c 7 ⊢ _ from ss_end I K c 3 4 (n := 28) (by rfl)) $$ H
  icases H with ⟨H, Hd⟩
  iapply (step_load_at c ocM _ fullShare (ocV I c) (cols (ocV I c) c) (cols_at (ocV I c) c (k0_off2_eq c) _)) $$ Hc; iintro Hc
  iapply (step_load c (k0_off6_eq c) oM fullShare X) $$ Ho; iintro Ho
  iapply (step_store c (k0_off6_eq c) oM (cols (ocV I c) c)) $$ [Ho]
  · iexists X; iexact Ho
  iintro Ho
  ihave H := (Entails.of_eq (cv_mk I K c 28 5 rv 0)) $$ [H Hv]
  · isplitl [H]; · iexact H
    iexact Hv
  iapply (wait_step I K c 5 rv 28 0 (v := 0) (v' := 1) rfl rfl ok_o (sem_o1 (rv 0)) (by rfl)) $$ H; iintro H
  iapply (slot_ot I K c 28 0 (v := 1) rfl (by rfl)) $$ H; iintro H
  iapply (ob_load I c 0 (v := 0) rfl (off7 c 0)) $$ HB; iintro %y HB
  iapply (ob_store I c 0 (v := 0) (v' := 1) rfl rfl (off7 c 0) (by rfl)) $$ HB; iintro HB
  iapply step_ret
  iapply Hk
  isplitl [Hd]; · iexact Hd
  isplitl [Hc]; · iexact Hc
  isplitl [Ho]
  · rw [outB_own]; iexact Ho
  isplitl [H]; · iexact H
  iexact HB

theorem part17 {Q : _ → sProp 𝕄} {v2 v370 v383 : BitVec 32} :
    iprop(CV I K c 28 5 rv 1 ∗ OB I c 1)
      ⊢ iprop((∀ (a : BitVec 32), (CV I K c 28 5 rv 3 ∗ OB I c 2) -∗ Q a) -∗ WP c (onBufs (k0_part17 (F := F)) c v2 v370 v383) Q) := by
  simp only [onBufs, k0_part17_eq_skeleton]
  unfold k0_part17_skel
  simp only [semSignalWord, semWaitWord, Prog.lift, Prog.bind_op, Prog.bind_ret, Prog.pure_eq_ret, wp_deviceId]
  iintro ⟨H, HB⟩ Hk
  iapply (wait_step I K c 5 rv 28 1 (v := 1) (v' := 2) rfl rfl ok_o (sem_o1 (rv 1)) (by rfl)) $$ H; iintro H
  iapply (slot_ot I K c 28 1 (v := 2) rfl (by rfl)) $$ H; iintro H
  iapply (ob_load I c 1 (v := 1) rfl (off7 c 1)) $$ HB; iintro %y HB
  iapply (ob_store I c 1 (v := 1) (v' := 2) rfl rfl (off7 c 1) (by rfl)) $$ HB; iintro HB
  iapply (wait_step I K c 5 rv 28 2 (v := 2) (v' := 3) rfl rfl ok_o (sem_o1 (rv 2)) (by rfl)) $$ H; iintro H
  iapply step_ret
  iapply Hk $$ %_
  isplitl [H]; · iexact H
  iexact HB

theorem part18 {Q : _ → sProp 𝕄} {v2 a b d : BitVec 32} :
    iprop(CV I K c 28 5 rv 3 ∗ OB I c 2)
      ⊢ iprop(((CV I K c 28 5 rv 4 ∗ OB I c 4) -∗ Q ⟨⟩) -∗ WP c (onBufs (k0_part18 (F := F)) c v2 a b d) Q) := by
  simp only [onBufs, k0_part18_eq_skeleton]
  unfold k0_part18_skel
  simp only [semSignalWord, semWaitWord, Prog.lift, Prog.bind_op, Prog.bind_ret, Prog.pure_eq_ret, wp_deviceId]
  iintro ⟨H, HB⟩ Hk
  iapply (slot_ot I K c 28 2 (v := 3) rfl (by rfl)) $$ H; iintro H
  iapply (ob_load I c 2 (v := 2) rfl (off7 c 2)) $$ HB; iintro %y HB
  iapply (ob_store I c 2 (v := 2) (v' := 3) rfl rfl (off7 c 2) (by rfl)) $$ HB; iintro HB
  iapply (wait_step I K c 5 rv 28 3 (v := 3) (v' := 4) rfl rfl ok_o (sem_o1 (rv 3)) (by rfl)) $$ H; iintro H
  iapply (slot_ot I K c 28 3 (v := 4) rfl (by rfl)) $$ H; iintro H
  iapply (ob_load I c 3 (v := 3) rfl (off7 c 3)) $$ HB; iintro %y HB
  iapply (ob_store I c 3 (v := 3) (v' := 4) rfl rfl (off7 c 3) (by rfl)) $$ HB; iintro HB
  iapply step_ret
  iapply Hk
  isplitl [H]; · iexact H
  iexact HB

theorem part19 {Q : _ → sProp 𝕄} {v2 a : BitVec 32} :
    iprop(CV I K c 28 5 rv 4 ∗ OB I c 4)
      ⊢ iprop(((CV I K c 28 5 rv 6 ∗ OB I c 6) -∗ Q ⟨⟩) -∗ WP c (onBufs (k0_part19 (F := F)) c v2 a) Q) := by
  simp only [onBufs, k0_part19_eq_skeleton]
  unfold k0_part19_skel
  simp only [semSignalWord, semWaitWord, Prog.lift, Prog.bind_op, Prog.bind_ret, Prog.pure_eq_ret, wp_deviceId]
  iintro ⟨H, HB⟩ Hk
  iapply (wait_step I K c 5 rv 28 4 (v := 4) (v' := 5) rfl rfl ok_o (sem_o1 (rv 4)) (by rfl)) $$ H; iintro H
  iapply (slot_ot I K c 28 4 (v := 5) rfl (by rfl)) $$ H; iintro H
  iapply (ob_load I c 4 (v := 4) rfl (off7 c 4)) $$ HB; iintro %y HB
  iapply (ob_store I c 4 (v := 4) (v' := 5) rfl rfl (off7 c 4) (by rfl)) $$ HB; iintro HB
  iapply (wait_step I K c 5 rv 28 5 (v := 5) (v' := 6) rfl rfl ok_o (sem_o1 (rv 5)) (by rfl)) $$ H; iintro H
  iapply (slot_ot I K c 28 5 (v := 6) rfl (by rfl)) $$ H; iintro H
  iapply (ob_load I c 5 (v := 5) rfl (off7 c 5)) $$ HB; iintro %y HB
  iapply (ob_store I c 5 (v := 5) (v' := 6) rfl rfl (off7 c 5) (by rfl)) $$ HB; iintro HB
  iapply step_ret
  iapply Hk
  isplitl [H]; · iexact H
  iexact HB

theorem part20 {Q : _ → sProp 𝕄} {v2 a : BitVec 32} :
    iprop(CV I K c 28 5 rv 6 ∗ OB I c 6 ∗ SV I c 0 id 0)
      ⊢ iprop(((SV I c 5 rv 7 ∗ OB I c 7 ∗ CV I K c 28 0 id 3) -∗ Q ⟨⟩) -∗ WP c (onBufs (k0_part20 (F := F)) c v2 a) Q) := by
  simp only [onBufs, k0_part20_eq_skeleton]
  unfold k0_part20_skel
  simp only [semSignalWord, semWaitWord, Prog.lift, Prog.bind_op, Prog.bind_ret, Prog.pure_eq_ret, wp_deviceId]
  iintro ⟨H, HB, Hv⟩ Hk
  iapply (wait_step I K c 5 rv 28 6 (v := 6) (v' := 7) rfl rfl ok_o (sem_o1 (rv 6)) (by rfl)) $$ H; iintro H
  iapply (slot_ot I K c 28 6 (v := 7) rfl (by rfl)) $$ H; iintro H
  iapply (ob_load I c 6 (v := 6) rfl (off7 c 6)) $$ HB; iintro %y HB
  iapply (ob_store I c 6 (v := 6) (v' := 7) rfl rfl (off7 c 6) (by rfl)) $$ HB; iintro HB
  ihave H := (Entails.of_eq (cv_mk I K c 28 5 rv 7).symm) $$ H
  icases H with ⟨H, Hr⟩
  ihave H := (Entails.of_eq (cv_mk I K c 28 0 id 0)) $$ [H Hv]
  · isplitl [H]; · iexact H
    iexact Hv
  iapply (wait_step I K c 0 id 28 0 (v := 0) (v' := 1) rfl rfl ok_s0 (sem_w0 0) (by rfl)) $$ H; iintro H
  iapply (wait_step I K c 0 id 28 1 (v := 1) (v' := 2) rfl rfl ok_s0 (sem_w0 1) (by rfl)) $$ H; iintro H
  iapply (wait_step I K c 0 id 28 2 (v := 2) (v' := 3) rfl rfl ok_s0 (sem_w0 2) (by rfl)) $$ H; iintro H
  iapply step_ret
  iapply Hk
  isplitl [Hr]; · iexact Hr
  isplitl [HB]; · iexact HB
  iexact H

theorem part21 {Q : _ → sProp 𝕄} :
    iprop(CV I K c 28 0 id 3 ∗ SV I c 2 id 0)
      ⊢ iprop(((SV I c 0 id 7 ∗ CV I K c 28 2 id 2) -∗ Q ⟨⟩) -∗ WP c (onBufs (k0_part21 (F := F)) c) Q) := by
  simp only [onBufs, k0_part21_eq_skeleton]
  unfold k0_part21_skel
  simp only [semSignalWord, semWaitWord, Prog.lift, Prog.bind_op, Prog.bind_ret, Prog.pure_eq_ret, wp_deviceId]
  iintro ⟨H, Hv⟩ Hk
  iapply (wait_step I K c 0 id 28 3 (v := 3) (v' := 4) rfl rfl ok_s0 (sem_w0 3) (by rfl)) $$ H; iintro H
  iapply (wait_step I K c 0 id 28 4 (v := 4) (v' := 5) rfl rfl ok_s0 (sem_w0 4) (by rfl)) $$ H; iintro H
  iapply (wait_step I K c 0 id 28 5 (v := 5) (v' := 6) rfl rfl ok_s0 (sem_w0 5) (by rfl)) $$ H; iintro H
  iapply (wait_step I K c 0 id 28 6 (v := 6) (v' := 7) rfl rfl ok_s0 (sem_w0 6) (by rfl)) $$ H; iintro H
  ihave H := (Entails.of_eq (cv_mk I K c 28 0 id 7).symm) $$ H
  icases H with ⟨H, Hr⟩
  ihave H := (Entails.of_eq (cv_mk I K c 28 2 id 0)) $$ [H Hv]
  · isplitl [H]; · iexact H
    iexact Hv
  iapply (wait_step I K c 2 id 28 0 (v := 0) (v' := 1) rfl rfl ok_s2 (sem_r0 0) (by rfl)) $$ H; iintro H
  iapply (wait_step I K c 2 id 28 1 (v := 1) (v' := 2) rfl rfl ok_s2 (sem_r0 1) (by rfl)) $$ H; iintro H
  iapply step_ret
  iapply Hk
  isplitl [Hr]; · iexact Hr
  iexact H

theorem part22 {Q : _ → sProp 𝕄} :
    CV I K c 28 2 id 2
      ⊢ iprop((CV I K c 28 2 id 6 -∗ Q ⟨⟩) -∗ WP c (onBufs (k0_part22 (F := F)) c) Q) := by
  simp only [onBufs, k0_part22_eq_skeleton]
  unfold k0_part22_skel
  simp only [semSignalWord, semWaitWord, Prog.lift, Prog.bind_op, Prog.bind_ret, Prog.pure_eq_ret, wp_deviceId]
  iintro H Hk
  iapply (wait_step I K c 2 id 28 2 (v := 2) (v' := 3) rfl rfl ok_s2 (sem_r0 2) (by rfl)) $$ H; iintro H
  iapply (wait_step I K c 2 id 28 3 (v := 3) (v' := 4) rfl rfl ok_s2 (sem_r0 3) (by rfl)) $$ H; iintro H
  iapply (wait_step I K c 2 id 28 4 (v := 4) (v' := 5) rfl rfl ok_s2 (sem_r0 4) (by rfl)) $$ H; iintro H
  iapply (wait_step I K c 2 id 28 5 (v := 5) (v' := 6) rfl rfl ok_s2 (sem_r0 5) (by rfl)) $$ H; iintro H
  iapply step_ret
  iapply Hk
  iexact H

theorem part23 {Q : _ → sProp 𝕄} :
    iprop(CV I K c 28 2 id 6 ∗ SV I c 4 id 0)
      ⊢ iprop(((SV I c 2 id 7 ∗ CV I K c 28 4 id 4) -∗ Q ⟨⟩) -∗ WP c (onBufs (k0_part23 (F := F)) c) Q) := by
  simp only [onBufs, k0_part23_eq_skeleton]
  unfold k0_part23_skel
  simp only [semSignalWord, semWaitWord, Prog.lift, Prog.bind_op, Prog.bind_ret, Prog.pure_eq_ret, wp_deviceId]
  iintro ⟨H, Hv⟩ Hk
  iapply (wait_step I K c 2 id 28 6 (v := 6) (v' := 7) rfl rfl ok_s2 (sem_r0 6) (by rfl)) $$ H; iintro H
  ihave H := (Entails.of_eq (cv_mk I K c 28 2 id 7).symm) $$ H
  icases H with ⟨H, Hr⟩
  ihave H := (Entails.of_eq (cv_mk I K c 28 4 id 0)) $$ [H Hv]
  · isplitl [H]; · iexact H
    iexact Hv
  iapply (wait_step I K c 4 id 28 0 (v := 0) (v' := 1) rfl rfl ok_s4 (sem_o0 0) (by rfl)) $$ H; iintro H
  iapply (wait_step I K c 4 id 28 1 (v := 1) (v' := 2) rfl rfl ok_s4 (sem_o0 1) (by rfl)) $$ H; iintro H
  iapply (wait_step I K c 4 id 28 2 (v := 2) (v' := 3) rfl rfl ok_s4 (sem_o0 2) (by rfl)) $$ H; iintro H
  iapply (wait_step I K c 4 id 28 3 (v := 3) (v' := 4) rfl rfl ok_s4 (sem_o0 3) (by rfl)) $$ H; iintro H
  iapply step_ret
  iapply Hk
  isplitl [Hr]; · iexact Hr
  iexact H

theorem part24 {Q : _ → sProp 𝕄} {v2 : BitVec 32} :
    iprop(CV I K c 28 4 id 4 ∗ (bigSep Finset.univ fun t : Fin 7 => tok c (4, t)))
      ⊢ iprop((∀ (a : BitVec 32), (SV I c 4 id 7 ∗ SE I K c 2) -∗ Q ⟨a, 1#32⟩) -∗ WP c (onBufs (k0_part24 (F := F)) c v2) Q) := by
  simp only [onBufs, k0_part24_eq_skeleton]
  unfold k0_part24_skel
  simp only [semSignalWord, semWaitWord, Prog.lift, Prog.bind_op, Prog.bind_ret, Prog.pure_eq_ret, wp_deviceId]
  iintro ⟨H, Ht⟩ Hk
  iapply (wait_step I K c 4 id 28 4 (v := 4) (v' := 5) rfl rfl ok_s4 (sem_o0 4) (by rfl)) $$ H; iintro H
  iapply (wait_step I K c 4 id 28 5 (v := 5) (v' := 6) rfl rfl ok_s4 (sem_o0 5) (by rfl)) $$ H; iintro H
  iapply (wait_step I K c 4 id 28 6 (v := 6) (v' := 7) rfl rfl ok_s4 (sem_o0 6) (by rfl)) $$ H; iintro H
  ihave H := (Entails.of_eq (cv_mk I K c 28 4 id 7).symm) $$ H
  icases H with ⟨H, Hr⟩
  ihave H := (se_start I K c) $$ [H Ht]
  · isplitl [H]; · iexact H
    iexact Ht
  iapply (exit_step I K c 0 (n := 0) (n' := 1) rfl rfl sem_exit (dev29 c) (by rfl)) $$ H; iintro H
  iapply (exit_step I K c 1 (n := 1) (n' := 2) rfl rfl sem_exit (dev30 c) (by rfl)) $$ H; iintro H
  iapply step_ret
  iapply Hk $$ %_
  isplitl [Hr]; · iexact Hr
  iexact H

end Cert.KernelIdealRun

end
-- ==== Proof.KernelIdealBody.lean ====
/-
The kernel on one device from its start to its end: the printed parts one after another.
-/
module

public import proofs.«01_k».proof.Proof.KernelIdealParts

@[expose] public section

set_option maxRecDepth 8000

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CK → ℕ) (c : Dev nD)

/-! ## The ends of the phases, put together -/

theorem land_all : iprop((bigSep Finset.univ fun t : Fin 7 => iprop(∃ Y, owns (c : Thread nD τ) (wfCol (peer c t)) fullShare Y))
      ∗ (bigSep Finset.univ fun t : Fin 7 => iprop(∃ Y, owns (c : Thread nD τ) (rsSlt t) fullShare Y))
      ∗ bigSep Finset.univ fun t : Fin 7 => iprop(∃ Y, owns (c : Thread nD τ) (otSlt t) fullShare Y))
    ⊢ (bigSep Finset.univ fun t : Fin 7 => Land c t : sProp 𝕄) := by
  have e : (fun t : Fin 7 => (Land c t : sProp 𝕄)) = fun t => iprop((∃ Y, owns (c : Thread nD τ) (wfCol (peer c t)) fullShare Y)
      ∗ (∃ Y, owns (c : Thread nD τ) (rsSlt t) fullShare Y) ∗ (∃ Y, owns (c : Thread nD τ) (otSlt t) fullShare Y)) := rfl
  rw [e, bigSep_sep', bigSep_sep']
theorem hc_named : k0_pay7 (k0_pay6 (k0_pay5 (rows (hV I c) c) (lift1 (rsV I c (rv 0))) (lift1 (rsV I c (rv 1))) (lift1 (rsV I c (rv 2))))
    (lift1 (rsV I c (rv 3))) (lift1 (rsV I c (rv 4))) (lift1 (rsV I c (rv 5)))) (lift1 (rsV I c (rv 6))) = hcV I c := rfl
theorem sb_start : iprop(Core I K c 0 ∗ (bigSep Finset.univ fun t : Fin 7 => tok c (0, t)) ∗ bigSep Finset.univ fun t : Fin 7 => Land c t) ⊢ SB I K c 0 := by
  unfold SB
  rw [rem_all, rem_all]
theorem ob_start : (bigSep Finset.univ fun t : Fin 7 => iprop(∃ Y, owns (c : Thread nD τ) (oRow (peer c t)) fullShare Y)) ⊢ OB I c 0 := by
  unfold OB
  rw [rem_all, don_none, bigSep_rv (fun t => iprop(∃ Y, owns (c : Thread nD τ) (oRow (peer c t)) fullShare Y))]
  iintro H
  isplitl; · iexact H
  iempintro
theorem ob_end : OB I c 7 ⊢ (bigSep Finset.univ fun t : Fin 7 => owns (c : Thread nD τ) (oRow (peer c t)) fullShare (outB I c (peer c t)) : sProp 𝕄) := by
  unfold OB
  rw [don_all, bigSep_rv (fun t => owns (c : Thread nD τ) (oRow (peer c t)) fullShare (outB I c (peer c t)))]
  iintro ⟨_, H⟩
  iexact H
theorem se_end : SE I K c 7 ⊢ Core I K c 35 := by
  unfold SE
  iintro ⟨H, _⟩
  iexact H
theorem step_bind {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP
  rw [wp_bind]

/-- What the device starts with, besides the credit and the position of the exit semaphore. -/
def Start : sProp 𝕄 :=
  iprop((Core I K c 0 ∗ (crd c (.inl 0) ∗ pos0 c (.inl 0)))
    ∗ ((bigSep Finset.univ fun t : Fin 7 => tok c (0, t)) ∗ (bigSep Finset.univ fun t : Fin 7 => tok c (1, t)) ∗ (bigSep Finset.univ fun t : Fin 7 => tok c (2, t)) ∗ (bigSep Finset.univ fun t : Fin 7 => tok c (3, t)) ∗ (bigSep Finset.univ fun t : Fin 7 => tok c (4, t)))
    ∗ ((bigSep Finset.univ fun t : Fin 7 => stok c 0 t) ∗ (bigSep Finset.univ fun t : Fin 7 => stok c 2 t) ∗ (bigSep Finset.univ fun t : Fin 7 => stok c 4 t))
    ∗ ((bigSep Finset.univ fun t : Fin 7 => crd c (.inr (1, t))) ∗ (bigSep Finset.univ fun t : Fin 7 => crd c (.inr (3, t))) ∗ (bigSep Finset.univ fun t : Fin 7 => crd c (.inr (5, t))))
    ∗ ((bigSep Finset.univ fun t : Fin 7 => pos0 c (.inr (0, t))) ∗ (bigSep Finset.univ fun t : Fin 7 => pos0 c (.inr (1, t))) ∗ (bigSep Finset.univ fun t : Fin 7 => pos0 c (.inr (2, t))) ∗ (bigSep Finset.univ fun t : Fin 7 => pos0 c (.inr (3, t))) ∗ (bigSep Finset.univ fun t : Fin 7 => pos0 c (.inr (4, t))) ∗ (bigSep Finset.univ fun t : Fin 7 => pos0 c (.inr (5, t))))
    ∗ (owns (c : Thread nD τ) xM fullShare (I.x c) ∗ owns (c : Thread nD τ) w1M fullShare (I.w c) ∗ owns (c : Thread nD τ) w2M fullShare (I.z c) ∗ (∃ X, owns (c : Thread nD τ) oM fullShare X))
    ∗ (∃ X, owns (c : Thread nD τ) hM fullShare X) ∗ (∃ X, owns (c : Thread nD τ) hbM fullShare X) ∗ (∃ X, owns (c : Thread nD τ) hcM fullShare X) ∗ (∃ X, owns (c : Thread nD τ) wbM fullShare X) ∗ (∃ X, owns (c : Thread nD τ) wfM fullShare X) ∗ (∃ X, owns (c : Thread nD τ) ocM fullShare X) ∗ (∃ X, owns (c : Thread nD τ) obM fullShare X) ∗ (∃ X, owns (c : Thread nD τ) rsM fullShare X) ∗ (∃ X, owns (c : Thread nD τ) otM fullShare X))

/-- What it has before the last signal. -/
def Mid : sProp 𝕄 :=
  iprop(SE I K c 6 ∗ pos1 c (.inl 0)
    ∗ (SV I c 0 id 7 ∗ (bigSep Finset.univ fun t : Fin 7 => pos1 c (.inr (1, t))) ∗ SV I c 2 id 7 ∗ SV I c 3 rv 7 ∗ SV I c 4 id 7 ∗ SV I c 5 rv 7)
    ∗ (owns (c : Thread nD τ) xM fullShare (I.x c) ∗ owns (c : Thread nD τ) w1M fullShare (I.w c) ∗ owns (c : Thread nD τ) w2M fullShare (I.z c))
    ∗ (owns (c : Thread nD τ) (oRow c) fullShare (outB I c c) ∗ OB I c 7)
    ∗ owns (c : Thread nD τ) hM fullShare (hV I c) ∗ owns (c : Thread nD τ) (hbRow c) fullShare (rows (hbV I c) c) ∗ owns (c : Thread nD τ) hcM fullShare (hcV I c)
    ∗ owns (c : Thread nD τ) wbM (Transfers.shareDrop fullShare 7) (wbV I c) ∗ owns (c : Thread nD τ) wfM fullShare (wfV I) ∗ owns (c : Thread nD τ) ocM fullShare (ocV I c) ∗ owns (c : Thread nD τ) (obCol c) fullShare (cols (obV I c) c))

theorem part25 {Q : _ → sProp 𝕄} :
    Start I K c ⊢ iprop((∀ a : BitVec 32, Mid I K c -∗ Q ⟨c, a⟩) -∗ WP c (onBufs (k0_part25 (F := F))) Q) := by
  simp only [onBufs, k0_part25_eq_skeleton]
  unfold k0_part25_skel
  simp only [semSignalWord, semWaitWord, Prog.lift, Prog.bind_op, Prog.bind_ret, Prog.pure_eq_ret]
  unfold Start
  iintro ⟨⟨H, Hcp⟩, ⟨Ht0, Ht1, Ht2, Ht3, Ht4⟩, ⟨Hs0, Hs2, Hs4⟩, ⟨Hc1, Hc3, Hc5⟩, ⟨Hp0, Hp1, Hp2, Hp3, Hp4, Hp5⟩, ⟨Hx, Hw, Hz, Ho⟩, Hh, Hhb, Hhc, Hwb, Hwf, Hoc, Hob, Hrs, Hot⟩ Hk
  ihave Hwf := (wf_split c) $$ Hwf
  icases Hwf with ⟨Hf, Hfs⟩
  ihave Hrs := (rs_split c) $$ Hrs
  ihave Hot := (ot_split c) $$ Hot
  ihave HL := (land_all c) $$ [Hfs Hrs Hot]
  · isplitl [Hfs]; · iexact Hfs
    isplitl [Hrs]; · iexact Hrs
    iexact Hot
  ihave H := (sb_start I K c) $$ [H Ht0 HL]
  · isplitl [H]; · iexact H
    isplitl [Ht0]; · iexact Ht0
    iexact HL
  ihave Ho := (o_split c) $$ Ho
  icases Ho with ⟨Ho, Hos⟩
  ihave HB := (ob_start I c) $$ Hos
  iapply step_bind; iapply (part1 I K c) $$ H; iintro %v2 %v24 %x1 H
  try dsimp only
  iapply step_bind; iapply (part2 I K c) $$ [H Hcp Hz Hwb Hs0 Ht1]
  · isplitl [H]; · iexact H
    isplitl [Hcp]; · iexact Hcp
    isplitl [Hz]; · iexact Hz
    isplitl [Hwb]; · iexact Hwb
    isplitl [Hs0]; · iexact Hs0
    iexact Ht1
  iintro %w2_0 %w2_1 ⟨H, Hq, Hz, Hwb, HLr, HLo⟩
  try dsimp only
  iapply step_bind; iapply (part3 I K c) $$ H; iintro %w3_0 %w3_1 %w3_2 %w3_3 H
  try dsimp only
  iapply step_bind; iapply (part4 I K c) $$ H; iintro %w4_0 %w4_1 %w4_2 H
  ihave H := (show SW I K c 7 ⊢ _ from ss_end I K c 1 0 (n := 14) (by rfl)) $$ H
  icases H with ⟨H, Hc0⟩
  try dsimp only
  iapply step_bind; iapply (part5 I c) $$ [Hwb Hf Hx Hw Hh Hhb]
  · isplitl [Hwb]; · iexact Hwb
    isplitl [Hf]; · iexact Hf
    isplitl [Hx]; · iexact Hx
    isplitl [Hw]; · iexact Hw
    isplitl [Hh]; · iexact Hh
    iexact Hhb
  iintro %w5_0 ⟨Hwb, Hf, Hx, Hw, Hh, Hhb⟩
  ihave Hhb := (Entails.of_eq (hb_whole c (hbV I c))) $$ Hhb
  icases Hhb with ⟨Hhb, Hbs⟩
  ihave H := (show _ ⊢ SR I K c 0 from ss_start I K c 2 2 (fun _ => rfl) (n := 14) (by rfl)) $$ [H HLr Hbs Hs2 Ht2]
  · isplitl [H]; · iexact H
    isplitl [Hbs]; · iexact Hbs
    isplitl [HLr]; · iexact HLr
    isplitl [Hs2]; · iexact Hs2
    iexact Ht2
  try dsimp only
  iapply step_bind; iapply (part6 I K c) $$ H; iintro %w6_0 %w6_1 %w6_2 %w6_3 H
  try dsimp only
  iapply step_bind; iapply (part7 I K c) $$ H; iintro %w7_0 %w7_1 H
  ihave Hv3 := (sv_start I c 3 rv (fun Φ => bigSep_rv Φ)) $$ [Hc3 Hp3]
  · isplitl [Hc3]; · iexact Hc3
    iexact Hp3
  try dsimp only
  iapply step_bind; iapply (part8 I K c) $$ [H Hh Hv3]
  · isplitl [H]; · iexact H
    isplitl [Hh]; · iexact Hh
    iexact Hv3
  iintro %w8_0 ⟨Hc2, Hh, H⟩
  try dsimp only
  iapply step_bind; iapply (part9 I K c) $$ H; iintro H
  try dsimp only
  iapply step_bind; iapply (part10 I K c) $$ H; iintro H
  ihave Hv1 := (sv_start I c 1 rv (fun Φ => bigSep_rv Φ)) $$ [Hc1 Hp1]
  · isplitl [Hc1]; · iexact Hc1
    iexact Hp1
  try dsimp only
  iapply step_bind; iapply (part11 I K c (hw := hc_named I c)) $$ [H Hv1 Hhc]
  · isplitl [H]; · iexact H
    isplitl [Hv1]; · iexact Hv1
    iexact Hhc
  iintro ⟨Hv3, H, Hhc⟩
  try dsimp only
  iapply step_bind; iapply (part12 I K c) $$ [H Hhc Hf Hoc]
  · isplitl [H]; · iexact H
    isplitl [Hhc]; · iexact Hhc
    isplitl [Hf]; · iexact Hf
    iexact Hoc
  iintro ⟨H, Hq1, Hhc, Hwf, Hoc⟩
  try dsimp only
  iapply step_bind; iapply (part13 I K c (hv := rfl)) $$ [H Hoc Hob HLo Hs4 Ht3]
  · isplitl [H]; · iexact H
    isplitl [Hoc]; · iexact Hoc
    isplitl [Hob]; · iexact Hob
    isplitl [HLo]; · iexact HLo
    isplitl [Hs4]; · iexact Hs4
    iexact Ht3
  iintro %w13_0 %w13_1 ⟨H, Hoc, Hob⟩
  try dsimp only
  iapply step_bind; iapply (part14 I K c) $$ H; iintro %w14_0 %w14_1 %w14_2 %w14_3 H
  try dsimp only
  iapply step_bind; iapply (part15 I K c) $$ H; iintro %w15_0 %w15_1 %w15_2 %w15_3 H
  ihave Hv5 := (sv_start I c 5 rv (fun Φ => bigSep_rv Φ)) $$ [Hc5 Hp5]
  · isplitl [Hc5]; · iexact Hc5
    iexact Hp5
  try dsimp only
  iapply step_bind; iapply (part16 I K c) $$ [H Hoc Ho Hv5 HB]
  · isplitl [H]; · iexact H
    isplitl [Hoc]; · iexact Hoc
    isplitl [Ho]; · iexact Ho
    isplitl [Hv5]; · iexact Hv5
    iexact HB
  iintro ⟨Hc4, Hoc, Ho, H, HB⟩
  try dsimp only
  iapply step_bind; iapply (part17 I K c) $$ [H HB]
  · isplitl [H]; · iexact H
    iexact HB
  iintro %w17_0 ⟨H, HB⟩
  try dsimp only
  iapply step_bind; iapply (part18 I K c) $$ [H HB]
  · isplitl [H]; · iexact H
    iexact HB
  iintro ⟨H, HB⟩
  try dsimp only
  iapply step_bind; iapply (part19 I K c) $$ [H HB]
  · isplitl [H]; · iexact H
    iexact HB
  iintro ⟨H, HB⟩
  ihave Hv0 := (sv_start I c 0 id (fun _ => rfl)) $$ [Hc0 Hp0]
  · isplitl [Hc0]; · iexact Hc0
    iexact Hp0
  try dsimp only
  iapply step_bind; iapply (part20 I K c) $$ [H HB Hv0]
  · isplitl [H]; · iexact H
    isplitl [HB]; · iexact HB
    iexact Hv0
  iintro ⟨Hv5, HB, H⟩
  ihave Hv2 := (sv_start I c 2 id (fun _ => rfl)) $$ [Hc2 Hp2]
  · isplitl [Hc2]; · iexact Hc2
    iexact Hp2
  try dsimp only
  iapply step_bind; iapply (part21 I K c) $$ [H Hv2]
  · isplitl [H]; · iexact H
    iexact Hv2
  iintro ⟨Hv0, H⟩
  try dsimp only
  iapply step_bind; iapply (part22 I K c) $$ H; iintro H
  ihave Hv4 := (sv_start I c 4 id (fun _ => rfl)) $$ [Hc4 Hp4]
  · isplitl [Hc4]; · iexact Hc4
    iexact Hp4
  try dsimp only
  iapply step_bind; iapply (part23 I K c) $$ [H Hv4]
  · isplitl [H]; · iexact H
    iexact Hv4
  iintro ⟨Hv2, H⟩
  try dsimp only
  iapply step_bind; iapply (part24 I K c) $$ [H Ht4]
  · isplitl [H]; · iexact H
    iexact Ht4
  iintro %w24_0 ⟨Hv4, H⟩
  try dsimp only
  iapply (exit_step I K c 2 (n := 2) (n' := 3) rfl rfl sem_exit (dev31 c) (by rfl)) $$ H; iintro H
  iapply (exit_step I K c 3 (n := 3) (n' := 4) rfl rfl sem_exit (dev32 c) (by rfl)) $$ H; iintro H
  iapply (exit_step I K c 4 (n := 4) (n' := 5) rfl rfl sem_exit (dev33 c) (by rfl)) $$ H; iintro H
  iapply (exit_step I K c 5 (n := 5) (n' := 6) rfl rfl sem_exit (dev34 c) (by rfl)) $$ H; iintro H
  iapply step_ret
  iapply Hk $$ %_
  unfold Mid
  isplitl [H]; · iexact H
  isplitl [Hq]; · iexact Hq
  isplitl [Hv0 Hq1 Hv2 Hv3 Hv4 Hv5]
  · isplitl [Hv0]; · iexact Hv0
    isplitl [Hq1]; · iexact Hq1
    isplitl [Hv2]; · iexact Hv2
    isplitl [Hv3]; · iexact Hv3
    isplitl [Hv4]; · iexact Hv4
    iexact Hv5
  isplitl [Hx Hw Hz]
  · isplitl [Hx]; · iexact Hx
    isplitl [Hw]; · iexact Hw
    iexact Hz
  isplitl [Ho HB]
  · isplitl [Ho]; · iexact Ho
    iexact HB
  isplitl [Hh]; · iexact Hh
  isplitl [Hhb]; · iexact Hhb
  isplitl [Hhc]; · iexact Hhc
  isplitl [Hwb]; · iexact Hwb
  isplitl [Hwf]; · iexact Hwf
  isplitl [Hoc]; · iexact Hoc
  iexact Hob

/-- What the device ends with: nothing owed, every position past its round, the result, and its buffers back. -/
def Final : sProp 𝕄 :=
  iprop(Ow c 35 ∗ (pos1 c (.inl 0) ∗ pos1 c (.inl 1))
    ∗ ((bigSep Finset.univ fun t : Fin 7 => pos1 c (.inr (0, t))) ∗ (bigSep Finset.univ fun t : Fin 7 => pos1 c (.inr (1, t))) ∗ (bigSep Finset.univ fun t : Fin 7 => pos1 c (.inr (2, t))) ∗ (bigSep Finset.univ fun t : Fin 7 => pos1 c (.inr (3, t))) ∗ (bigSep Finset.univ fun t : Fin 7 => pos1 c (.inr (4, t))) ∗ (bigSep Finset.univ fun t : Fin 7 => pos1 c (.inr (5, t))))
    ∗ (owns (c : Thread nD τ) xM fullShare (I.x c) ∗ owns (c : Thread nD τ) w1M fullShare (I.w c) ∗ owns (c : Thread nD τ) w2M fullShare (I.z c) ∗ owns (c : Thread nD τ) oM fullShare (outV I c))
    ∗ (∃ X, owns (c : Thread nD τ) hM fullShare X) ∗ (∃ X, owns (c : Thread nD τ) hbM fullShare X) ∗ (∃ X, owns (c : Thread nD τ) hcM fullShare X) ∗ (∃ X, owns (c : Thread nD τ) wbM fullShare X) ∗ (∃ X, owns (c : Thread nD τ) wfM fullShare X) ∗ (∃ X, owns (c : Thread nD τ) ocM fullShare X) ∗ (∃ X, owns (c : Thread nD τ) obM fullShare X) ∗ (∃ X, owns (c : Thread nD τ) rsM fullShare X) ∗ (∃ X, owns (c : Thread nD τ) otM fullShare X))

theorem body_run {Q : _ → sProp 𝕄} :
    iprop(Start I K c ∗ crd c (.inl 1) ∗ pos0 c (.inl 1)) ⊢ iprop((Final I c -∗ Q ⟨⟩) -∗ WP c (onBufs (cc0_body (F := F))) Q) := by
  simp only [onBufs, cc0_body_eq_skeleton]
  unfold cc0_body_skel
  simp only [semSignalWord, semWaitWord, Prog.lift, Prog.bind_op, Prog.bind_ret, Prog.pure_eq_ret]
  iintro ⟨H, Hc, Hp⟩ Hk
  iapply step_bind; iapply (part25 I K c) $$ H; iintro %v H
  try dsimp only
  unfold Mid
  icases H with ⟨H, Hqb, ⟨Hv0, Hq1, Hv2, Hv3, Hv4, Hv5⟩, ⟨Hx, Hw, Hz⟩, ⟨Ho, HB⟩, Hh, Hhb, Hhc, Hwb, Hwf, Hoc, Hob⟩
  iapply (exit_step I K c 6 (n := 6) (n' := 7) rfl rfl sem_exit (dev35 c) (by rfl)) $$ H; iintro H
  ihave H := (se_end I K c) $$ H
  unfold Core
  icases H with ⟨#HR, HO⟩
  iapply (step_waitS I K c 1 35 ok_exit sem_exit (by rfl)) $$ [HO Hc Hp]
  · isplitr; · iexact HR
    isplitl [HO]; · iexact HO
    isplitl [Hc]; · iexact Hc
    iexact Hp
  iintro ⟨HO, Hq, _⟩
  iapply step_ret
  iapply Hk
  ihave Hv0 := (sv_end I c 0 id (fun _ => rfl)) $$ Hv0
  icases Hv0 with ⟨Hq0, Hd0⟩
  ihave Hv2 := (sv_end I c 2 id (fun _ => rfl)) $$ Hv2
  icases Hv2 with ⟨Hq2, Hd2⟩
  ihave Hv3 := (sv_end I c 3 rv (fun Φ => bigSep_rv Φ)) $$ Hv3
  icases Hv3 with ⟨Hq3, Hd3⟩
  ihave Hv4 := (sv_end I c 4 id (fun _ => rfl)) $$ Hv4
  icases Hv4 with ⟨Hq4, Hd4⟩
  ihave Hv5 := (sv_end I c 5 rv (fun Φ => bigSep_rv Φ)) $$ Hv5
  icases Hv5 with ⟨Hq5, Hd5⟩
  ihave HB := (ob_end I c) $$ HB
  ihave Ho := (Entails.of_eq (o_whole I c).symm) $$ [Ho HB]
  · isplitl [Ho]; · iexact Ho
    iexact HB
  ihave Hhb := (Entails.of_eq (hb_whole c (hbV I c)).symm) $$ [Hhb Hd2]
  · isplitl [Hhb]; · iexact Hhb
    iexact Hd2
  ihave Hob := (Entails.of_eq (ob_whole c (obV I c)).symm) $$ [Hob Hd4]
  · isplitl [Hob]; · iexact Hob
    iexact Hd4
  ihave Hwb := (Entails.of_eq (wb_shares c (wbV I c)).symm) $$ [Hwb Hd0]
  · isplitl [Hwb]; · iexact Hwb
    iexact Hd0
  ihave Hrs := (show (bigSep Finset.univ fun j => dpay I 3 j c) ⊢ _ from rs_join c (rsV I c)) $$ Hd3
  ihave Hot := (show (bigSep Finset.univ fun j => dpay I 5 j c) ⊢ _ from ot_join c (otV I c)) $$ Hd5
  unfold Final
  isplitl [HO]; · iexact HO
  isplitl [Hqb Hq]
  · isplitl [Hqb]; · iexact Hqb
    iexact Hq
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hx Hw Hz Ho]
  · isplitl [Hx]; · iexact Hx
    isplitl [Hw]; · iexact Hw
    isplitl [Hz]; · iexact Hz
    iexact Ho
  isplitl [Hh]; · iexists _; iexact Hh
  isplitl [Hhb]; · iexists _; iexact Hhb
  isplitl [Hhc]; · iexists _; iexact Hhc
  isplitl [Hwb]; · iexists _; iexact Hwb
  isplitl [Hwf]; · iexists _; iexact Hwf
  isplitl [Hoc]; · iexists _; iexact Hoc
  isplitl [Hob]; · iexists _; iexact Hob
  isplitl [Hrs]; · iexact Hrs
  iexact Hot

end Cert.KernelIdealRun

end
-- ==== Proof.KernelIdealLaunch.lean ====
/-
The run of the whole program: what each device is dealt at the launch, its body's obligation, and the state in
which every execution ends.
-/
module

public import proofs.«01_k».proof.Proof.KernelIdealBody
public import proofs.«01_k».proof.Proof.Gen.KernelIdeal.Points
public import Idealize.ShloMosaic.Lib.Rounds.Family

@[expose] public section

set_option maxRecDepth 8000

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## Families over the semaphores and over the payments, written out -/

section Families
variable {M : Type} [URA M]

theorem bigSep_two (Φ : Fin 2 → sProp M) : bigSep Finset.univ Φ = iprop(Φ 0 ∗ Φ 1) := bigSep_univ_eq_bigSepL [0, 1] (by decide) (by decide) Φ
theorem bigSep_three (Φ : Fin 3 → sProp M) : bigSep Finset.univ Φ = iprop(Φ 0 ∗ Φ 1 ∗ Φ 2) := bigSep_univ_eq_bigSepL [0, 1, 2] (by decide) (by decide) Φ
theorem bigSep_five (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ
theorem bigSep_six (Φ : Fin 6 → sProp M) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A family over the semaphores of a device: the two regular ones, the six arrays. -/
theorem bigSep_names (Φ : CK → sProp M) :
    bigSep Finset.univ Φ = iprop((Φ (.inl 0) ∗ Φ (.inl 1)) ∗ (bigSep Finset.univ fun t : Fin 7 => Φ (.inr (0, t))) ∗ (bigSep Finset.univ fun t : Fin 7 => Φ (.inr (1, t)))
      ∗ (bigSep Finset.univ fun t : Fin 7 => Φ (.inr (2, t))) ∗ (bigSep Finset.univ fun t : Fin 7 => Φ (.inr (3, t))) ∗ (bigSep Finset.univ fun t : Fin 7 => Φ (.inr (4, t)))
      ∗ (bigSep Finset.univ fun t : Fin 7 => Φ (.inr (5, t)))) := by
  rw [bigSep_univ_sum, bigSep_two (fun a => Φ (.inl a)), bigSep_univ_prod (fun b : Fin 6 × Fin 7 => Φ (.inr b)), bigSep_six]
  rfl
/-- A family over the payments: five kinds, seven partners. -/
theorem bigSep_pays (Φ : PT → sProp M) :
    bigSep Finset.univ Φ = iprop((bigSep Finset.univ fun t : Fin 7 => Φ (0, t)) ∗ (bigSep Finset.univ fun t : Fin 7 => Φ (1, t))
      ∗ (bigSep Finset.univ fun t : Fin 7 => Φ (2, t)) ∗ (bigSep Finset.univ fun t : Fin 7 => Φ (3, t)) ∗ (bigSep Finset.univ fun t : Fin 7 => Φ (4, t))) := by
  rw [bigSep_univ_prod Φ, bigSep_five]
end Families

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-- The operands as every device's copy into its vector memory brings them. -/
def ins : Ins F where
  x c := (win0_0.blk (0 : Fin 1)).view.read (Elt F) ((s₀ m ρ).mem ((c : Thread nD τ).loc main_arg0))
  w c := (win0_1.blk (0 : Fin 1)).view.read (Elt F) ((s₀ m ρ).mem ((c : Thread nD τ).loc main_arg1))
  z c := (win0_2.blk (0 : Fin 1)).view.read (Elt F) ((s₀ m ρ).mem ((c : Thread nD τ).loc main_arg2))

/-! ## What a device starts with and what it leaves -/

/-- The rights to the payments of device `c`: to its partners, and on its own outgoing semaphores. -/
def toks (c : Dev nD) : sProp 𝕄 :=
  iprop((bigSep Finset.univ fun x : PT => tok c x)
    ∗ (bigSep Finset.univ fun t : Fin 7 => stok c 0 t) ∗ (bigSep Finset.univ fun t : Fin 7 => stok c 2 t) ∗ (bigSep Finset.univ fun t : Fin 7 => stok c 4 t))
/-- Its credits. -/
def crds (c : Dev nD) : sProp 𝕄 :=
  iprop((crd c (.inl 0) ∗ crd c (.inl 1))
    ∗ (bigSep Finset.univ fun t : Fin 7 => crd c (.inr (1, t))) ∗ (bigSep Finset.univ fun t : Fin 7 => crd c (.inr (3, t))) ∗ (bigSep Finset.univ fun t : Fin 7 => crd c (.inr (5, t))))
/-- Its nine scratch buffers, at any contents. -/
def scratch (c : Dev nD) : sProp 𝕄 :=
  iprop((∃ X, owns (c : Thread nD τ) hM fullShare X) ∗ (∃ X, owns (c : Thread nD τ) hbM fullShare X) ∗ (∃ X, owns (c : Thread nD τ) hcM fullShare X) ∗ (∃ X, owns (c : Thread nD τ) wbM fullShare X) ∗ (∃ X, owns (c : Thread nD τ) wfM fullShare X) ∗ (∃ X, owns (c : Thread nD τ) ocM fullShare X) ∗ (∃ X, owns (c : Thread nD τ) obM fullShare X) ∗ (∃ X, owns (c : Thread nD τ) rsM fullShare X) ∗ (∃ X, owns (c : Thread nD τ) otM fullShare X))
/-- What the launch deals it before its body. -/
def dealt (c : Dev nD) : sProp 𝕄 :=
  iprop(∃ K, (recs (ins m ρ) K ∗ toks c ∗ bigSep Finset.univ fun k : CK => pos0 c k) ∗ crds c)

def Φ₀ (c : Dev nD) : sProp 𝕄 := iprop(dealt m ρ c ∗ scratch c)
/-- After the body: the scratch buffers, and every semaphore at zero. -/
def Φ₁ (c : Dev nD) : sProp 𝕄 := iprop(scratch c ∗ bigSep Finset.univ fun k : CK => semVal (kcell (c, k)) 0)

theorem scratch_eq (c : Dev nD) : (Pipeline.scopedRest spec0 c : sProp 𝕄) = scratch c := by
  rw [scopedRest0_eq]
  unfold scratch
  simp only [owns_whole]
  rfl

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ).x c
    | ⟨1, _⟩ => (ins m ρ).w c
    | ⟨2, _⟩ => (ins m ρ).z c
    | ⟨3, _⟩ => outV (ins m ρ) c
  Φ t := match t with
    | ⟨0, _⟩ => Φ₀ m ρ c
    | ⟨_ + 1, _⟩ => Φ₁ c
  q _ := fullShare
  owed t := match t with
    | ⟨0, _⟩ => owedFrom c 0
    | ⟨_ + 1, _⟩ => 0

/-- Every cell is past its one round: all of them can be closed, and their counters are zero. -/
theorem close_all (I : Ins F) (K : Dev nD × CK → ℕ) (c : Dev nD) :
    iprop(recs I K ∗ bigSep Finset.univ fun k : CK => pos1 c k) ⊢ (|={Set.univ}=> bigSep Finset.univ fun k : CK => semVal (kcell (c, k)) 0 : sProp 𝕄) := by
  have h : iprop(recs I K ∗ bigSep Finset.univ fun k : CK => pos1 c k)
      ⊢ (bigSep Finset.univ fun k : CK => iprop(cellInv ER (Rd I) (K (c, k)) (kcell (c, k)) ∗ atPos ER (kcell (c, k)) (0 + 1) ∅ 0) : sProp 𝕄) :=
    (sep_mono_left (BI.bigSep_of_persistent (Finset.univ : Finset CK) (recs I K))).trans (by
      rw [← bigSep_sep']
      exact bigSep_mono fun k _ => sep_mono_left (recs_inv I K (c, k)))
  exact h.trans (Rounds.cells_close ER (Rd I) Finset.univ (fun k : CK => kcell (c, k)) (fun k => K (c, k)) (fun _ _ => Set.mem_univ _) (fun _ _ h => h)
    (fun _ => 0 + 1) fun k _ r hr => duties_after I _ r hr)

/-! ## The body's obligation -/

abbrev stage (c : Dev nD) (b : Ref sig .tc) (X : b.ty.Contents (Elt F)) : sProp 𝕄 := owns (c : Thread nD τ) (Memref.whole b) fullShare X

def Pre (c : Dev nD) : sProp 𝕄 :=
  iprop(Φ₀ m ρ c ∗ (dats m ρ 0 c).owesAt () t0_0.castSucc
    ∗ (∃ d, stage c cc0_stg0_0 ((dats m ρ 0 c).before (0 : Fin 4) t0_0 d)) ∗ (∃ d, stage c cc0_stg1_0 ((dats m ρ 0 c).before (1 : Fin 4) t0_0 d))
    ∗ (∃ d, stage c cc0_stg2_0 ((dats m ρ 0 c).before (2 : Fin 4) t0_0 d)) ∗ (∃ d, stage c cc0_stg3_0 ((dats m ρ 0 c).before (3 : Fin 4) t0_0 d)))
def Post (c : Dev nD) : sProp 𝕄 :=
  iprop(Φ₁ c ∗ (dats m ρ 0 c).owesAt () t0_0.succ ∗ stage c cc0_stg0_0 ((ins m ρ).x c) ∗ stage c cc0_stg1_0 ((ins m ρ).w c)
    ∗ stage c cc0_stg2_0 ((ins m ρ).z c) ∗ stage c cc0_stg3_0 (outV (ins m ρ) c))

theorem before_x (c : Dev nD) (d) : (dats m ρ 0 c).before (0 : Fin 4) t0_0 d = (ins m ρ).x c := by unfold Dat.before; rw [if_pos (fetch0_0 t0_0)]; rfl
theorem before_w (c : Dev nD) (d) : (dats m ρ 0 c).before (1 : Fin 4) t0_0 d = (ins m ρ).w c := by unfold Dat.before; rw [if_pos (fetch0_1 t0_0)]; rfl
theorem before_z (c : Dev nD) (d) : (dats m ρ 0 c).before (2 : Fin 4) t0_0 d = (ins m ρ).z c := by unfold Dat.before; rw [if_pos (fetch0_2 t0_0)]; rfl

/-- What the body starts from, as its run wants it. -/
theorem pre_start (c : Dev nD) : Pre m ρ c ⊢ (∃ K, recs (ins m ρ) K ∗ (Start (ins m ρ) K c ∗ crd c (.inl 1) ∗ pos0 c (.inl 1)) : sProp 𝕄) := by
  unfold Pre Φ₀ dealt toks crds Dat.owesAt Pipeline.owesWithin
  simp only [before_x, before_w, before_z, bigSep_names, bigSep_pays]
  iintro ⟨⟨⟨%K, ⟨#HR, ⟨⟨Ht0, Ht1, Ht2, Ht3, Ht4⟩, Hs⟩, ⟨Hpb, Hpe⟩, Hp⟩, ⟨Hcb, Hce⟩, Hc⟩, Hscr⟩, ⟨%W, %hW, HO⟩, ⟨%d0, Hx⟩, ⟨%d1, Hw⟩, ⟨%d2, Hz⟩, ⟨%d3, Ho⟩⟩
  iexists K
  isplitr; · iexact HR
  isplitr [Hce Hpe]
  · unfold Start Core Ow
    isplitl [HO Hcb Hpb]
    · isplitl [HO]
      · isplitr; · iexact HR
        iexists W; iexact HO
      isplitl [Hcb]; · iexact Hcb
      iexact Hpb
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [Hs]; · iexact Hs
    isplitl [Hc]; · iexact Hc
    isplitl [Hp]; · iexact Hp
    isplitr [Hscr]
    · isplitl [Hx]; · iexact Hx
      isplitl [Hw]; · iexact Hw
      isplitl [Hz]; · iexact Hz
      iexists _; iexact Ho
    unfold scratch; iexact Hscr
  isplitl [Hce]; · iexact Hce
  iexact Hpe

/-- What the body ends with gives what the region asks of it, once the cells are closed. -/
theorem final_post (K : Dev nD × CK → ℕ) (c : Dev nD) : iprop(recs (ins m ρ) K ∗ Final (ins m ρ) c) ⊢ (|={Set.univ}=> Post m ρ c : sProp 𝕄) := by
  unfold Final Ow
  iintro ⟨#HR, ⟨%W, HO⟩, ⟨Hqb, Hqe⟩, Hq, ⟨Hx, Hw, Hz, Ho⟩, Hscr⟩
  imod (close_all (ins m ρ) K c) $$ [Hqb Hqe Hq] with HV
  · isplitr; · iexact HR
    iapply (Entails.of_eq (bigSep_names (fun k : CK => (pos1 c k : sProp 𝕄))).symm)
    isplitl [Hqb Hqe]
    · isplitl [Hqb]; · iexact Hqb
      iexact Hqe
    iexact Hq
  imodintro
  unfold Post Φ₁ Dat.owesAt Pipeline.owesWithin
  isplitl [Hscr HV]
  · isplitl [Hscr]; · (unfold scratch; iexact Hscr)
    iexact HV
  isplitl [HO]
  · iexists W
    isplitr; · (ipureintro; exact fun _ _ => Or.inl trivial)
    ihave HO := (Entails.of_eq (congrArg (fun T => (owes (c : Thread nD τ) T W : sProp 𝕄)) (owedFrom_end c))) $$ HO
    iexact HO
  isplitl [Hx]; · iexact Hx
  isplitl [Hw]; · iexact Hw
  isplitl [Hz]; · iexact Hz
  iexact Ho

theorem body_ok (c : Dev nD) : Pre m ρ c ⊢ WP c (onBufs (cc0_body (F := F))) (fun _ => Post m ρ c) := by
  refine (pre_start m ρ c).trans ?_
  iintro ⟨%K, #HR, H⟩
  iapply (show WP c (onBufs (cc0_body (F := F))) (fun _ => iprop(|={Set.univ}=> Post m ρ c)) ⊢ WP c (onBufs (cc0_body (F := F))) (fun _ => Post m ρ c) from wp_fupd _ _ _ _ _)
  iapply (body_run (ins m ρ) K c) $$ H
  iintro H
  iapply (final_post m ρ K c)
  isplitr; · iexact HR
  iexact H

theorem obligation (c : Dev nD) : BodyObligation (dats (F := F) m ρ 0 c) (defs₀ (F := F)) 𝒱₀ () Set.univ := fun t => by
  rw [fin_N0 t]
  rw [bigSep_W0, bigSep_W0]
  exact body_ok m ρ c

end Cert.KernelIdealRun

end
-- ==== Proof.KernelIdealRun.lean ====
/-
The launch: minting the protocol's ghost state, dealing it to the devices, and the run of @main.
-/
module

public import proofs.«01_k».proof.Proof.KernelIdealLaunch
public import Idealize.ShloMosaic.Lib.Pipeline.CollectiveSegs

@[expose] public section

set_option maxRecDepth 8000

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, and the entry barrier's -/

/-- All but the barrier's. -/
abbrev OK : Type := Unit ⊕ Fin 6 × Fin 7
def own : OK → CK
  | .inl _ => .inl 1
  | .inr p => .inr p
theorem own_inj : Function.Injective own := by
  rintro (a | a) (b | b) h <;> simp [own] at h ⊢
  exact h
def osem (k : OK) : SemLoc sig := csem (own k)

theorem dsem_ge (n : Fin 6) (j : Fin 7) : 4 ≤ (dsem n j).val := by
  show 4 ≤ 4 + 7 * n.val + j.val
  omega

theorem osem_scoped : ∀ k, (osem k).isScoped .tc = true := by decide
theorem stage_sem_lt : ∀ (w : Fin cfg0.W) (s), ((cfg0.spec w).sem s).val < 4 := by decide
theorem ownSemFacts : Pipeline.OwnSemFacts cfg0.spec osem where
  isScoped := osem_scoped
  inj := csem_inj.comp own_inj
  disj k w s h := by
    rcases k with a | ⟨n, j⟩
    · exact absurd h (fun h' => by cases h')
    · have h1 : dsem n j = (cfg0.spec w).sem s := SemLoc.dma.inj h
      have h2 := congrArg Fin.val h1
      have := dsem_ge n j
      have := stage_sem_lt w s
      omega

theorem share_eq (c : Dev nD) (w : Fin cfg0.W) : (dats m ρ 0 c).share w = fullShare := by unfold Dat.share; split <;> rfl

theorem ownSems_eq (c : Dev nD) : (Pipeline.ownSems0 (Ix := Unit) (Name := ℕ) (U := UU) (Lvl := ℕ) (Val := Elt F) (τ := τ) osem c : sProp 𝕄)
    = iprop(semVal (kcell (c, .inl 1)) 0 ∗ bigSep Finset.univ fun p : Fin 6 × Fin 7 => semVal (kcell (c, .inr p)) 0) := by
  unfold Pipeline.ownSems0
  rw [bigSep_univ_sum, bigSep_univ_eq_bigSepL (M := 𝕄) [()] (by decide) (by decide)]
  rfl
theorem unscopedSems_eq (c : Dev nD) : (unscopedSems0 c : sProp 𝕄) = semVal (kcell (c, .inl 0)) 0 := by
  unfold unscopedSems0; rw [bigSep_eq_bigSepL_of_eq [SemLoc.reg barS] (by decide) (by decide)]; rfl

/-- Together they are the protocol's cells. -/
theorem sems_eq (c : Dev nD) :
    (bigSep Finset.univ fun k : CK => semVal (kcell (c, k)) 0 : sProp 𝕄)
      = iprop((unscopedSems0 c ∗ semVal (kcell (c, .inl 1)) 0) ∗ bigSep Finset.univ fun p : Fin 6 × Fin 7 => semVal (kcell (c, .inr p)) 0) := by
  rw [unscopedSems_eq, bigSep_univ_sum, bigSep_two]
  rfl

/-! ## Cells and payments' rights -/

def cells : Finset (GSem nD τ sig) := Finset.univ.map ⟨kcell, kcell_inj⟩

/-- The payments' rights, by who pays: to a partner, or on one of the three outgoing arrays. -/
abbrev TI : Type := PT ⊕ Fin 3 × Fin 7
def outArr (a : Fin 3) : Fin 6 := ⟨2 * a.val, by have := a.isLt; omega⟩
def tokOf (ci : Dev nD × TI) : GSem nD τ sig × ℕ × Fin 7 :=
  match ci.2 with
  | .inl x => (kcell (peer ci.1 x.2, payTo x), 0, payDuty x)
  | .inr (a, t) => (kcell (ci.1, .inr (outArr a, t)), 0, 0)
theorem pay_inj : ∀ x y : PT, payTo x = payTo y → payDuty x = payDuty y → x = y := by decide
theorem pay_ne : ∀ (x : PT) (a : Fin 3) (t : Fin 7), payTo x ≠ .inr (outArr a, t) := by decide
theorem outArr_inj : Function.Injective outArr := by decide
theorem tokOf_inj : Function.Injective tokOf := by
  rintro ⟨c, i⟩ ⟨c', i'⟩ h
  have hk {a b : Dev nD × CK} {d e : Fin 7} (h : ((kcell a, 0, d) : GSem nD τ sig × ℕ × Fin 7) = (kcell b, 0, e)) : a = b ∧ d = e :=
    ⟨kcell_inj (congrArg Prod.fst h), congrArg (fun x : GSem nD τ sig × ℕ × Fin 7 => x.2.2) h⟩
  rcases i with x | ⟨a, t⟩ <;> rcases i' with x' | ⟨a', t'⟩
  · obtain ⟨h1, h2⟩ := hk h
    have e : x = x' := pay_inj x x' (congrArg Prod.snd h1) h2
    subst e
    have : c = c' := (around x.2).injective (congrArg Prod.fst h1)
    rw [this]
  · exact absurd (congrArg Prod.snd (hk h).1) (pay_ne x a' t')
  · exact absurd (congrArg Prod.snd (hk h).1).symm (pay_ne x' a t)
  · obtain ⟨h1, -⟩ := hk h
    have e1 : c = c' := congrArg Prod.fst h1
    have e2 : (outArr a, t) = (outArr a', t') := Sum.inr.inj (congrArg Prod.snd h1)
    have e3 : a = a' := outArr_inj (congrArg Prod.fst e2)
    have e4 : t = t' := congrArg Prod.snd e2
    rw [e1, e3, e4]
def tokens : Finset (GSem nD τ sig × ℕ × Fin 7) := Finset.univ.map ⟨tokOf, tokOf_inj⟩

def u₀ : UU :=
  (initOf (Pipeline.cells cfgs cellOf_inj) (Pipeline.launchToks cfgs cellOf_inj), initOf cells tokens)

/-- What the launch element deals to device `c`, and what the global step makes of it. -/
def G (c : Dev nD) : sProp 𝕄 :=
  iprop((bigSep Finset.univ fun k : CK => roundState ER (Rd (ins m ρ)) (kcell (c, k)) 0)
    ∗ (bigSep Finset.univ fun k : CK => pos0 c k) ∗ (bigSep Finset.univ fun k : CK => reached ER (kcell (c, k)) 0) ∗ toks c)
def G' (c : Dev nD) : sProp 𝕄 :=
  iprop(∃ K : Dev nD × CK → ℕ, ((bigSep Finset.univ fun ck => cellInv ER (Rd (ins m ρ)) (K ck) (kcell ck)) ∗ (bigSep Finset.univ fun ck : Dev nD × CK => reached ER (kcell ck) 0))
    ∗ toks c ∗ bigSep Finset.univ fun k : CK => pos0 c k)

theorem cells_all (Φ : GSem nD τ sig → sProp 𝕄) : bigSep cells Φ = bigSep Finset.univ fun c : Dev nD => bigSep Finset.univ fun k : CK => Φ (kcell (c, k)) := by
  unfold cells; rw [bigSep_map, bigSep_univ_prod]; rfl
theorem tokens_all : bigSep tokens (fun x => (dutyTok ER x.1 x.2.1 x.2.2 : sProp 𝕄)) = bigSep Finset.univ fun c : Dev nD => toks c := by
  unfold tokens; rw [bigSep_map, bigSep_univ_prod]
  refine bigSep_congr fun c _ => ?_
  rw [bigSep_univ_sum, bigSep_univ_prod (fun b : Fin 3 × Fin 7 => _), bigSep_three]
  rfl

theorem fund : BI.own (ER (initOf cells tokens)) ⊢ (|==> bigSep Finset.univ (G m ρ) : sProp 𝕄) := by
  iintro HX
  imod (Rounds.fund ER (Rd (ins m ρ)) cells tokens) $$ HX with ⟨Hst, Hr, Hat, Htok⟩
  imodintro
  ihave Hst := (Entails.of_eq (cells_all fun g => roundState ER (Rd (ins m ρ)) g 0)) $$ Hst
  ihave Hat := (Entails.of_eq (cells_all (F := F) fun g => atPos ER g 0 ∅ 0)) $$ Hat
  ihave Hr := (Entails.of_eq (cells_all (F := F) fun g => reached ER g 0)) $$ Hr
  ihave Htok := (Entails.of_eq (tokens_all (F := F))) $$ Htok
  unfold G pos0; simp only [bigSep_sep']
  isplitl [Hst]; · iexact Hst
  isplitl [Hat]; · iexact Hat
  isplitl [Hr]; · iexact Hr
  iexact Htok

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd (ins m ρ)) κ (kcell (c, k))))
          ∗ (bigSep Finset.univ fun k : CK => reached ER (kcell (c, k)) 0) ∗ toks c ∗ bigSep Finset.univ fun k : CK => pos0 c k) := by
  unfold G
  rw [ownSems_eq]
  iintro ⟨⟨He, Hd⟩, Hb, Hst, Hat, Hr, Htok⟩
  ihave Hv := (Entails.of_eq (sems_eq (F := F) c).symm) $$ [He Hd Hb]
  · isplitr [Hd]
    · isplitl [Hb]; · iexact Hb
      iexact He
    iexact Hd
  imod (show iprop((bigSep Finset.univ fun k : CK => semVal (kcell (c, k)) 0) ∗ bigSep Finset.univ fun k : CK => roundState ER (Rd (ins m ρ)) (kcell (c, k)) 0)
      ⊢ (|={Set.univ}=> bigSep Finset.univ fun k => iprop(∃ κ : ℕ, cellInv ER (Rd (ins m ρ)) κ (kcell (c, k))) : sProp 𝕄) from by
        rw [← bigSep_sep']
        exact (bigSep_mono fun k _ => (Rounds.body_intro ER (Rd (ins m ρ)) (kcell (c, k))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Htok]; · iexact Htok
  iexact Hat

theorem regroup :
    (bigSep Finset.univ fun c : Dev nD => iprop((bigSep Finset.univ fun k : CK => iprop(∃ κ : ℕ, cellInv ER (Rd (ins m ρ)) κ (kcell (c, k))))
          ∗ (bigSep Finset.univ fun k : CK => reached ER (kcell (c, k)) 0) ∗ toks c ∗ bigSep Finset.univ fun k : CK => pos0 c k) : sProp 𝕄)
      ⊢ bigSep Finset.univ (G' m ρ) := by
  rw [bigSep_sep', bigSep_sep', ← bigSep_univ_prod (fun ck : Dev nD × CK => iprop(∃ κ : ℕ, cellInv ER (Rd (ins m ρ)) κ (kcell ck))),
    ← bigSep_univ_prod (fun ck : Dev nD × CK => (reached ER (kcell ck) 0 : sProp 𝕄))]
  iintro ⟨HI, #HR, Hl⟩
  ihave HK := (BI.bigSep_exists_pi Finset.univ (fun (ck : Dev nD × CK) (κ : ℕ) => (cellInv ER (Rd (ins m ρ)) κ (kcell ck) : sProp 𝕄))) $$ HI
  icases HK with ⟨%K, #HI⟩
  have h : iprop(((bigSep Finset.univ fun ck => cellInv ER (Rd (ins m ρ)) (K ck) (kcell ck)) ∗ (bigSep Finset.univ fun ck : Dev nD × CK => reached ER (kcell ck) 0))
      ∗ bigSep Finset.univ fun c : Dev nD => iprop(toks c ∗ bigSep Finset.univ fun k : CK => pos0 c k)) ⊢ (bigSep Finset.univ (G' m ρ) : sProp 𝕄) :=
    (sep_mono_left (BI.bigSep_of_persistent (Finset.univ : Finset (Dev nD)) _)).trans (by
      rw [← bigSep_sep']
      refine bigSep_mono fun c _ => ?_
      unfold G'
      exact Idealize.SL.BI.BIClass.exists_intro (Φ := fun K : Dev nD × CK → ℕ => iprop(((bigSep Finset.univ fun ck => cellInv ER (Rd (ins m ρ)) (K ck) (kcell ck)) ∗ (bigSep Finset.univ fun ck : Dev nD × CK => reached ER (kcell ck) 0))
        ∗ toks c ∗ bigSep Finset.univ fun k : CK => pos0 c k)) K)
  iapply h
  isplitr
  · isplitr; · iexact HI
    iexact HR
  iexact Hl

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

/-- What is owed to device `c`, payment by payment. -/
def owedTo (c : Dev nD) (x : PT) : CellTallies nD τ sig Unit := tallyAt (kcell (c, payTo x)) () (amtK (payTo x))

theorem owed_sum : (∑ d, owedFrom d 0) = ∑ d : Dev nD, ∑ x : PT, owedTo d x := by
  have h (d : Dev nD) : owedFrom d 0 = ∑ x : PT, due d x := by
    unfold owedFrom; rw [Finset.filter_true_of_mem fun x _ => Nat.zero_le _]
  rw [Finset.sum_congr rfl fun d _ => h d, Finset.sum_comm, Finset.sum_comm (f := fun d x => owedTo d x)]
  exact Finset.sum_congr rfl fun x _ => Equiv.sum_comp (around x.2) (fun d => owedTo d x)

theorem cred_sum {ι : Type} [DecidableEq ι] (s : Finset ι) (f : ι → CellTallies nD τ sig Unit) :
    (cred (∑ x ∈ s, f x) : sProp 𝕄) = bigSep s fun x => cred (f x) := by
  induction s using Finset.induction_on with
  | empty => rw [Finset.sum_empty, bigSep_empty, cred_zero]; rfl
  | insert a s ha ih =>
    rw [Finset.sum_insert ha, bigSep_insert ha, ← ih]
    exact BI.Entails.antisymm (cred_add _ _).1 (cred_add _ _).2

/-- Seven units on one cell are one credit of seven. -/
theorem cred_units (g : GSem nD τ sig) : (bigSep Finset.univ fun _ : Fin 7 => cred (tallyAt g () 1)) = (cred (tallyAt g () 7) : sProp 𝕄) := by
  rw [← cred_sum]
  congr 1
  rw [Fin.sum_univ_seven]
  simp only [tallyAt_add]

theorem launch_cred (c : Dev nD) : (Pipeline.launchCred (fun d => owedFrom d 0) c : sProp 𝕄) = cred (∑ x : PT, owedTo c x) :=
  Pipeline.launchCred_of_sum (fun d => owedFrom d 0) (fun c => ∑ x : PT, owedTo c x) owed_sum (fun d g h => by
    by_contra hn
    refine h ?_
    rw [Finset.sum_apply]
    refine Finset.sum_eq_zero fun x _ => tallyAt_ne_cell (fun e => hn ?_) _ _
    rw [e]) c

theorem crds_of_launch (c : Dev nD) : (Pipeline.launchCred (fun d => owedFrom d 0) c : sProp 𝕄) ⊢ crds c := by
  rw [launch_cred, cred_sum, bigSep_pays]
  have hu (a : Fin 2) (p : Fin 5) (hp : ∀ t, payTo (p, t) = .inl a) : (bigSep Finset.univ fun t : Fin 7 => (cred (owedTo c (p, t)) : sProp 𝕄)) = crd c (.inl a) := by
    unfold owedTo crd
    simp only [hp]
    exact cred_units _
  have hr (n : Fin 6) (p : Fin 5) (hp : ∀ t, payTo (p, t) = .inr (n, rv t)) :
      (bigSep Finset.univ fun t : Fin 7 => (cred (owedTo c (p, t)) : sProp 𝕄)) = bigSep Finset.univ fun t : Fin 7 => crd c (.inr (n, t)) := by
    rw [← bigSep_rv (fun t => (crd c (.inr (n, t)) : sProp 𝕄))]
    unfold owedTo crd
    simp only [hp]
    rfl
  rw [hu 0 0 fun _ => rfl, hu 1 4 fun _ => rfl, hr 1 1 fun _ => rfl, hr 3 2 fun _ => rfl, hr 5 3 fun _ => rfl]
  unfold crds
  iintro ⟨Hb, H1, H3, H5, He⟩
  isplitl [Hb He]
  · isplitl [Hb]; · iexact Hb
    iexact He
  isplitl [H1]; · iexact H1
  isplitl [H3]; · iexact H3
  iexact H5

/-! ## The side conditions of the launch -/

theorem start_intro (c : Dev nD) :
    iprop(Pipeline.unscopedRestP Pipeline.Prefetch.none cfg0.spec c (fun b => m ((c : Thread nD τ).loc b)) ∗ levAts L lv
        ∗ Pipeline.launchCred (fun d => owedFrom d 0) c ∗ prngReg c (ρ c) ∗ G' m ρ c)
      ⊢ |={Set.univ}=> iprop(dealt m ρ c ∗ emp) := by
  iintro ⟨-, Hlev, Hcr, -, HG⟩
  ihave Hc := (crds_of_launch (F := F) c) $$ Hcr
  imodintro
  unfold dealt G' recs
  isplitl
  · icases HG with ⟨%K, ⟨HI, HR⟩, Ht, Hp⟩
    iexists K
    isplitr [Hc]
    · isplitl [HI HR Hlev]
      · isplitl [HI]; · iexact HI
        isplitl [HR]; · iexact HR
        iexact Hlev
      isplitl [Ht]; · iexact Ht
      iexact Hp
    iexact Hc
  · iempintro

theorem phi_start (c : Dev nD) :
    iprop(dealt m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  ihave Hr := (Entails.of_eq (scratch_eq (F := F) c)) $$ Hr
  iexact Hr

theorem phi_end (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems_eq]
  unfold Φ₁
  rw [sems_eq]
  iintro ⟨Hr, ⟨Hb, He⟩, Hd⟩
  isplitl [Hb]; · iexact Hb
  isplitl [He Hd]
  · isplitl [He]; · iexact He
    iexact Hd
  iapply (Entails.of_eq (scratch_eq (F := F) c).symm)
  iexact Hr

theorem low_pay : ∀ x : PT, 0 < lvK (payTo x) := by decide
theorem stage_lv (c : Dev nD) (q : DmaSem sig) (hq : q.val < 4) : lv ((c : Thread nD τ), .dma q) () ≤ 0 := by
  unfold lv
  rw [nameOf_none]
  intro k h
  rcases k with a | ⟨n, j⟩
  · exact absurd h (fun h' => by cases h')
  · have h2 := congrArg Fin.val (SemLoc.dma.inj h)
    have := dsem_ge n j
    omega

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 0 (stage_lv c _ (stage_sem_lt w s)) fun x _ => low_pay x
    · show (levAts L lv : sProp 𝕄) ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every fair execution of @main on the eight devices terminates, and ends with
    every window's array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := block_pos0) (harr := arr_whole0) (hstage := stage_whole0) (hshare := share_eq m ρ)
    (hdistinct := winFacts0.arr_inj)
    (O₀ := fun d => owedFrom d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP]; · iexact HP
      iexact HG)
    (hglob := glob m ρ)
    (hA := fun _ _ => rfl) (hpf := fun _ k => k.elim0)
    (X := dealt m ρ) (Y := fun c => unscopedSems0 c) (Z := fun _ => iprop(emp))
    (hX := start_intro m ρ) (hin := phi_start m ρ) (hout := phi_end m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The operands' arrays after the run hold what they held. -/
theorem final_x (c : Dev nD) : finalA m ρ c (0 : Fin 4) = (s₀ m ρ).mem (win0_0.arr.view.loc (c : Thread nD τ)) := (dats (F := F) m ρ 0 c).arrAt_in (0 : Fin 4) rfl _
theorem final_w (c : Dev nD) : finalA m ρ c (1 : Fin 4) = (s₀ m ρ).mem (win0_1.arr.view.loc (c : Thread nD τ)) := (dats (F := F) m ρ 0 c).arrAt_in (1 : Fin 4) rfl _
theorem final_z (c : Dev nD) : finalA m ρ c (2 : Fin 4) = (s₀ m ρ).mem (win0_2.arr.view.loc (c : Thread nD τ)) := (dats (F := F) m ρ 0 c).arrAt_in (2 : Fin 4) rfl _

end Cert.KernelIdealRun

end
-- ==== Proof.KernelIdealValue.lean ====
/-
What the kernel leaves in the result, over the extended reals: device c's buffer is column block c of (x · W1) · W2.

Over the extended reals narrowing and widening change nothing, so every transfer brings the number that was computed.
Row block s of x · W1 is the sum over the devices of their partial products' row block s: the sum over the 4096
contracted positions, taken eight runs of 512 at a time.  Only the order of a sum changes, so nothing need be finite.
-/
module

public import proofs.«01_k».proof.Proof.KernelIdealProto
public import Idealize.ShloMosaic.Lib.MatmulPlain
public import Idealize.ShloMosaic.Lib.StackMember
public import Idealize.ShloMosaic.Lib.Layout

@[expose] public section

noncomputable section

namespace Cert.KernelIdealRun

open Cert.KernelIdeal Cert.KernelIdeal.Gen
open Idealize.ShloMosaic
open Idealize.ShloMosaic.ValueIdx
open scoped BigOperators

/-! ## The kernel's own steps at an index -/

theorem pay1_ideal (v : Vec Ideal S512x256 .f32) (i) : k0_pay1 v i = v i := by
  unfold k0_pay1
  simp only [shapeCast_self]
  rfl
theorem pay4_ideal (v : Vec Ideal S4096x512 .f32) (i) : k0_pay4 v i = v i := by
  unfold k0_pay4
  simp only [shapeCast_self]
  rfl
theorem pay9_ideal (v : Vec Ideal S512x2048 .f32) (i) : k0_pay9 v i = v i := by
  unfold k0_pay9
  simp only [shapeCast_self]
  rfl

/-- A slot read back as the block it was written from. -/
theorem cast_lift1 {α : Type} (f : S512x512.Idx → α) : shapeCast S512x512 (lift1 f) shapeCasts_S1x512x512_S512x512 = f :=
  funext fun i => congrArg f (Equiv.symm_apply_apply _ i)
theorem cast_lift2 {α : Type} (f : S512x256.Idx → α) : shapeCast S512x256 (lift2 f) shapeCasts_S1x512x256_S512x256 = f :=
  funext fun i => congrArg f (Equiv.symm_apply_apply _ i)

theorem pay10_ideal (v : Vec Ideal S512x256 .bf16) (i) : k0_pay10 (lift2 v) i = v i := by
  unfold k0_pay10
  simp only [cast_lift2]
  rfl

/-- The sum of a device's own block and the seven that arrived. -/
theorem sum_ideal (a : Vec Ideal S512x512 .f32) (b : Fin 7 → Vec Ideal S512x512 .bf16) (i) :
    k0_pay7 (k0_pay6 (k0_pay5 a (lift1 (b 6)) (lift1 (b 5)) (lift1 (b 4))) (lift1 (b 3)) (lift1 (b 2)) (lift1 (b 1))) (lift1 (b 0)) i
      = (a i : EReal) + ∑ t : Fin 7, (b t i : EReal) := by
  unfold k0_pay7 k0_pay6 k0_pay5
  simp only [cast_lift1, shapeCast_self]
  rw [Fin.sum_univ_seven]
  show ((((((((a i : EReal) + b 6 i) + b 5 i) + b 4 i) + b 3 i) + b 2 i) + b 1 i) + b 0 i : EReal) = _
  ac_rfl

theorem pay3_ideal (x : Vec Ideal S4096x512 .f32) (w : Vec Ideal S512x512 .f32) (r : Fin 4096) (k : Fin 512) :
    k0_pay3 x w (ix2 r k) = ∑ j : Fin 512, (x (ix2 r j) * w (ix2 j k) : EReal) := by
  unfold k0_pay3
  simp only [shapeCast_self]
  refine (Ideal.matmul_plain_apply (M := 4096) (K := 512) (N := 512) none x w _ r k).trans ?_
  show Ideal.ofBits .f32 0x00000000#32 + _ = _
  rw [Ideal.ofBits_zero_f32, zero_add]

theorem pay8_ideal (h : Vec Ideal S512x512 .bf16) (w : Vec Ideal S512x2048 .bf16) (r : Fin 512) (n : Fin 2048) :
    k0_pay8 h w (ix2 r n) = ∑ k : Fin 512, (h (ix2 r k) * w (ix2 k n) : EReal) := by
  unfold k0_pay8
  simp only [shapeCast_self]
  refine (Ideal.matmul_plain_apply (M := 512) (K := 512) (N := 2048) none h w _ r n).trans ?_
  show Ideal.ofBits .f32 0x00000000#32 + _ = _
  rw [Ideal.ofBits_zero_f32, zero_add]

/-! ## The layout -/

/-- A position in an array of eight runs of 512, by its run and its place there. -/
def at512 (s : Dev nD) (i : Fin 512) : Fin 4096 := ⟨512 * s.val + i.val, by have : s.val < 8 := s.isLt; omega⟩
/-- The same for eight runs of 256. -/
def at256 (s : Dev nD) (i : Fin 256) : Fin 2048 := ⟨256 * s.val + i.val, by have : s.val < 8 := s.isLt; omega⟩

theorem rowR_ix2 (s : Dev nD) (i k : Fin 512) : (rowR s).emb (ix2 i k) = ix2 (at512 s i) k := by
  funext a
  refine Fin.ext ?_
  rw [Rect.emb_apply]
  match a with
  | ⟨0, _⟩ => simp [Rect.unit, at512]
  | ⟨1, _⟩ => simp [Rect.unit]

theorem colR_ix2 (s : Dev nD) (i : Fin 512) (n : Fin 256) : (colR s).emb (ix2 i n) = ix2 i (at256 s n) := by
  funext a
  refine Fin.ext ?_
  rw [Rect.emb_apply]
  match a with
  | ⟨0, _⟩ => simp [Rect.unit]
  | ⟨1, _⟩ => simp [Rect.unit, at256]

/-- A sum over 4096 positions, eight runs of 512 at a time. -/
theorem sum_runs (f : Fin 4096 → EReal) : ∑ d : Dev nD, ∑ j : Fin 512, f (at512 d j) = ∑ n : Fin 4096, f n := by
  rw [← Fintype.sum_prod_type' (f := fun (d : Dev nD) (j : Fin 512) => f (at512 d j))]
  refine Fintype.sum_equiv (finProdFinEquiv (m := 8) (n := 512)) _ _ fun p => congrArg f (Fin.ext ?_)
  show 512 * p.1.val + p.2.val = p.2.val + 512 * p.1.val
  omega

/-! ## The result -/

/-- The arrays the operands are blocks of. -/
structure Whole where
  x : (⟨2, ![4096, 4096]⟩ : Shape).Idx → EReal
  w : (⟨2, ![4096, 512]⟩ : Shape).Idx → EReal
  z : (⟨2, ![512, 2048]⟩ : Shape).Idx → EReal

/-- Device `c` holds column block `c` of x, row block `c` of W1, column block `c` of W2. -/
structure Cut (I : Ins Ideal) (A : Whole) : Prop where
  x : ∀ c (r : Fin 4096) (j : Fin 512), I.x c (ix2 r j) = A.x (ix2 r (at512 c j))
  w : ∀ c (j k : Fin 512), I.w c (ix2 j k) = A.w (ix2 (at512 c j) k)
  z : ∀ c (k : Fin 512) (n : Fin 256), I.z c (ix2 k n) = A.z (ix2 k (at256 c n))

/-- (x · W1) · W2. -/
def Whole.h (A : Whole) (r : Fin 4096) (k : Fin 512) : EReal := ∑ m : Fin 4096, A.x (ix2 r m) * A.w (ix2 m k)
def Whole.o (A : Whole) (r : Fin 4096) (n : Fin 2048) : EReal := ∑ k : Fin 512, A.h r k * A.z (ix2 k n)

variable {I : Ins Ideal} {A : Whole}

/-- After the exchange device `c` holds row block `c` of x · W1. -/
theorem hcV_ideal (H : Cut I A) (c : Dev nD) (i k : Fin 512) : hcV I c (ix2 i k) = A.h (at512 c i) k := by
  unfold hcV
  rw [sum_ideal (rows (hV I c) c) (rsV I c) (ix2 i k)]
  have hown : ∀ d : Dev nD, (hV I d (ix2 (at512 c i) k) : EReal) = ∑ j : Fin 512, A.x (ix2 (at512 c i) (at512 d j)) * A.w (ix2 (at512 d j) k) := fun d => by
    unfold hV
    rw [pay3_ideal]
    exact Finset.sum_congr rfl fun j _ => by rw [H.x, H.w]
  have hrs : ∀ t : Fin 7, (rsV I c t (ix2 i k) : EReal) = hV I (peer c t) (ix2 (at512 c i) k) := fun t => by
    unfold rsV hbV
    rw [rows_apply, pay4_ideal, rowR_ix2]
  rw [rows_apply, rowR_ix2, Finset.sum_congr rfl fun t _ => hrs t]
  have hsum : ∑ d : Dev nD, (hV I d (ix2 (at512 c i) k) : EReal)
      = hV I c (ix2 (at512 c i) k) + ∑ t : Fin 7, (hV I (peer c t) (ix2 (at512 c i) k) : EReal) := by
    rw [univ_eq_peers c, Finset.sum_insert (by simp [peer_ne]), Finset.sum_image fun t _ t' _ h => peer_inj c t t' h]
  refine hsum.symm.trans ?_
  rw [Finset.sum_congr rfl fun d _ => hown d]
  exact sum_runs fun m => A.x (ix2 (at512 c i) m) * A.w (ix2 m k)

/-- The gathered second weight is the whole one. -/
theorem wfV_ideal (H : Cut I A) (k : Fin 512) (n : Fin 2048) : wfV I (ix2 k n) = A.z (ix2 k n) := by
  have hs : n.val / 256 < 8 := by omega
  have hn : n = at256 ⟨n.val / 256, hs⟩ ⟨n.val % 256, Nat.mod_lt _ (by decide)⟩ := Fin.ext (by show n.val = 256 * (n.val / 256) + n.val % 256; omega)
  rw [hn, ← colR_ix2]
  refine (congrFun (cols_wfV I _) _).trans ?_
  unfold wbV
  rw [pay1_ideal, H.z]
  rw [colR_ix2]

/-- Its product with the gathered weight is row block `s` of the result. -/
theorem ocV_ideal (H : Cut I A) (s : Dev nD) (i : Fin 512) (n : Fin 2048) : ocV I s (ix2 i n) = A.o (at512 s i) n := by
  unfold ocV
  rw [pay8_ideal]
  exact Finset.sum_congr rfl fun k _ => by rw [hcV_ideal H, wfV_ideal H]

/-- Row block `s` of the result on device `c`, whether computed there or received. -/
theorem outB_ideal (H : Cut I A) (c s : Dev nD) (i : Fin 512) (n : Fin 256) : outB I c s (ix2 i n) = A.o (at512 s i) (at256 c n) := by
  have h : cols (ocV I s) c (ix2 i n) = A.o (at512 s i) (at256 c n) := by
    show ocV I s ((colR c).emb (ix2 i n)) = _
    rw [colR_ix2, ocV_ideal H]
  unfold outB
  split
  · next e => subst e; exact h
  · rw [pay10_ideal]
    refine Eq.trans ?_ h
    exact pay9_ideal (ocV I s) _

/-- Device `c`'s result is column block `c` of (x · W1) · W2. -/
theorem outV_ideal (H : Cut I A) (c : Dev nD) (r : Fin 4096) (n : Fin 256) : outV I c (ix2 r n) = A.o r (at256 c n) := by
  have hs : r.val / 512 < 8 := by omega
  have hr : at512 ⟨r.val / 512, hs⟩ ⟨r.val % 512, Nat.mod_lt _ (by decide)⟩ = r := Fin.ext (by show 512 * (r.val / 512) + r.val % 512 = r.val; omega)
  have hi : (fun a => match a with | 0 => ⟨r.val % 512, Nat.mod_lt _ (by decide)⟩ | 1 => ⟨n.val, n.isLt⟩ : S512x256.Idx)
      = ix2 ⟨r.val % 512, Nat.mod_lt _ (by decide)⟩ n := by
    funext a
    match a with
    | ⟨0, _⟩ => rfl
    | ⟨1, _⟩ => rfl
  have h := outB_ideal H c ⟨r.val / 512, hs⟩ ⟨r.val % 512, Nat.mod_lt _ (by decide)⟩ n
  rw [hr, ← hi] at h
  exact h

end Cert.KernelIdealRun

end
-- ==== Proof.KernelIdealResult.lean ====
/-
The kernel's result buffers after the run, and the claim over the extended reals.

Each window's one block is the whole array, so reading or writing the block reads or writes the array.
-/
module

public import proofs.«01_k».proof.Proof.KernelIdealRun
public import proofs.«01_k».proof.Proof.KernelIdealValue

@[expose] public section

noncomputable section

namespace Cert.KernelIdealRun

open Cert.KernelIdeal Cert.KernelIdeal.Gen
open Idealize.ShloMosaic
open Idealize.ShloMosaic.TcCoe
open Idealize.ShloMosaic.ValueIdx
open Idealize.SL.Sem

variable {F : FTy → Type} [FloatOps F]
variable (m : (ℓ : Loc nD τ sig) → Buf (Elt F) ℓ) (ρ : Dev nD → PrngReg)

/-- The operands a device copies in are its buffers. -/
theorem ins_x (c : Dev nD) : (ins m ρ).x c = m ((c.tc : Thread nD τ).loc main_arg0) := by
  have hz : (fun a => win0_0.index (0 : Fin 1) a * main_arg0.ty.shape.size a) = fun _ => 0 := funext fun a => by fin_cases a <;> decide
  have hr := fun f => Memref.read_access_unit_zero (Elt F) main_arg0 hz (fun a => by fin_cases a <;> decide) f
  exact hr (m ((c.tc : Thread nD τ).loc main_arg0))
theorem ins_w (c : Dev nD) : (ins m ρ).w c = m ((c.tc : Thread nD τ).loc main_arg1) := by
  have hz : (fun a => win0_1.index (0 : Fin 1) a * main_arg1.ty.shape.size a) = fun _ => 0 := funext fun a => by fin_cases a <;> decide
  have hr := fun f => Memref.read_access_unit_zero (Elt F) main_arg1 hz (fun a => by fin_cases a <;> decide) f
  exact hr (m ((c.tc : Thread nD τ).loc main_arg1))
theorem ins_z (c : Dev nD) : (ins m ρ).z c = m ((c.tc : Thread nD τ).loc main_arg2) := by
  have hz : (fun a => win0_2.index (0 : Fin 1) a * main_arg2.ty.shape.size a) = fun _ => 0 := funext fun a => by fin_cases a <;> decide
  have hr := fun f => Memref.read_access_unit_zero (Elt F) main_arg2 hz (fun a => by fin_cases a <;> decide) f
  exact hr (m ((c.tc : Thread nD τ).loc main_arg2))

/-- The result's buffer after the run holds the result. -/
theorem final_out (c : Dev nD) : finalA m ρ c (3 : Fin 4) = outV (ins m ρ) c := by
  refine (Memref.read_access_unit_zero (Elt F) main_v1 (show (fun a => win0_3.index (0 : Fin 1) a * main_v1.ty.shape.size a) = fun _ => 0 from funext fun a => by fin_cases a <;> decide) (fun a => by fin_cases a <;> decide) _).symm.trans
    (?_ : (win0_3.blk (0 : Fin 1)).view.read (Elt F) (finalA m ρ c (3 : Fin 4)) = _)
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

end Cert.KernelIdealRun

end
-- ==== Proof.lean ====
/-
The proof of `Cert.Claim`: the three frames, the preservation and the equality over the extended reals.

The kernel's run is proved once, over any float operations, in Proof/KernelIdealRun.lean (and the same text for the
program the bits are claimed of in Proof/KernelRun.lean); what it leaves is read here.  The reference's run is the
generated one.  The equality is Proof/KernelIdealValue.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealResult
public import Idealize.ShloMosaic.Adequacy
public import Idealize.ShloMosaic.Init

@[expose] public section

noncomputable section

namespace Cert.Proof

open Idealize.ShloMosaic Idealize.ShloMosaic.ValueIdx Idealize.SL.Sem

/-- The program's frame, at the bits. -/
theorem frame_p : Cert.quiescent_Kernel := fun m ρ _ =>
  (θ_run Cert.Kernel.defs _ _).mono
    (fun _ h => ⟨fun c => ⟨(h.1 c (0 : Fin 4)).trans (Cert.KernelRun.final_x m ρ c), (h.1 c (1 : Fin 4)).trans (Cert.KernelRun.final_w m ρ c),
      (h.1 c (2 : Fin 4)).trans (Cert.KernelRun.final_z m ρ c)⟩, h.2⟩)
    (Cert.KernelRun.run_main (F := Bits) m ρ)

/-- The same over the extended reals. -/
theorem frame_pi : Cert.quiescent_KernelIdeal := fun m ρ _ =>
  (θ_run Cert.KernelIdeal.defs _ _).mono
    (fun _ h => ⟨fun c => ⟨(h.1 c (0 : Fin 4)).trans (Cert.KernelIdealRun.final_x m ρ c), (h.1 c (1 : Fin 4)).trans (Cert.KernelIdealRun.final_w m ρ c),
      (h.1 c (2 : Fin 4)).trans (Cert.KernelIdealRun.final_z m ρ c)⟩, h.2⟩)
    (Cert.KernelIdealRun.run_main (F := Ideal) m ρ)

/-- The reference's frame: it has no semaphore. -/
theorem frame_ri : Cert.quiescent_ReferenceIdeal := fun m ρ _ =>
  (θ_run Cert.ReferenceIdeal.defs _ _).mono
    (fun r h => ⟨fun c => ⟨(h c).2.1, (h c).2.2.1, (h c).2.2.2⟩, sem_eq_zero_of_no_sems (by decide) r.2⟩)
    (Cert.ReferenceIdeal.Value.run m ρ)

/-- The reference's value: (x · W1) · W2. -/
def refV (A : Cert.KernelIdealRun.Whole) : (⟨2, ![4096, 2048]⟩ : Shape).Idx → EReal := fun i => A.o (i 0) (i 1)

theorem ref_eq (x : FVec Ideal ⟨2, ![4096, 4096]⟩ .f32) (w : FVec Ideal ⟨2, ![4096, 512]⟩ .f32) (z : FVec Ideal ⟨2, ![512, 2048]⟩ .f32) :
    Host.dotGeneral (DotDims.plain 4096 512 2048) none (Host.dotGeneral (DotDims.plain 4096 4096 512) none x w) z = refV ⟨x, w, z⟩ := by
  funext i
  rw [eq_ix2 i]
  refine (StackMember.dotGeneral_plain_apply none _ z (i 0) (i 1)).trans ?_
  exact Finset.sum_congr rfl fun k _ => congrArg (· * z (ix2 k (i 1))) (StackMember.dotGeneral_plain_apply none x w (i 0) k)

/-- The kernel's result is the reference's, cut along its columns. -/
theorem algebraic : Cert.algebraic_KernelIdeal_ReferenceIdeal := by
  intro m ρ m' ρ' _ hagree
  set A : Cert.KernelIdealRun.Whole := ⟨m' (((0 : Dev Cert.ReferenceIdeal.nD).tc : Thread _ Cert.ReferenceIdeal.τ).loc Cert.ReferenceIdeal.main_arg0),
    m' (((0 : Dev Cert.ReferenceIdeal.nD).tc : Thread _ Cert.ReferenceIdeal.τ).loc Cert.ReferenceIdeal.main_arg1),
    m' (((0 : Dev Cert.ReferenceIdeal.nD).tc : Thread _ Cert.ReferenceIdeal.τ).loc Cert.ReferenceIdeal.main_arg2)⟩ with hA
  have hcut : Cert.KernelIdealRun.Cut (Cert.KernelIdealRun.ins m ρ) A :=
    { x := fun c r j => by
        rw [Cert.KernelIdealRun.ins_x, (hagree c).1]
        refine congrArg A.x (funext fun a => Fin.ext ?_)
        match a with
        | ⟨0, _⟩ => rfl
        | ⟨1, _⟩ => exact congrArg (· + j.val) (Nat.mul_comm c.val 512)
      w := fun c j k => by
        rw [Cert.KernelIdealRun.ins_w, (hagree c).2.1]
        refine congrArg A.w (funext fun a => Fin.ext ?_)
        match a with
        | ⟨0, _⟩ => exact congrArg (· + j.val) (Nat.mul_comm c.val 512)
        | ⟨1, _⟩ => rfl
      z := fun c k n => by
        rw [Cert.KernelIdealRun.ins_z, (hagree c).2.2]
        refine congrArg A.z (funext fun a => Fin.ext ?_)
        match a with
        | ⟨0, _⟩ => rfl
        | ⟨1, _⟩ => exact congrArg (· + n.val) (Nat.mul_comm c.val 256) }
  refine ⟨refV A, ?_, ?_⟩
  · refine (θ_run Cert.KernelIdeal.defs _ _).mono
      (fun _ h c => ⟨((h.1 c (3 : Fin 4)).trans (Cert.KernelIdealRun.final_out m ρ c)).trans ?_,
        (h.1 c (0 : Fin 4)).trans (Cert.KernelIdealRun.final_x m ρ c), (h.1 c (1 : Fin 4)).trans (Cert.KernelIdealRun.final_w m ρ c),
        (h.1 c (2 : Fin 4)).trans (Cert.KernelIdealRun.final_z m ρ c)⟩)
      (Cert.KernelIdealRun.run_main (F := Ideal) m ρ)
    funext i
    rw [eq_ix2 i]
    refine (Cert.KernelIdealRun.outV_ideal hcut c (i 0) (i 1)).trans ?_
    show A.o _ _ = A.o _ _
    exact congrArg₂ A.o (Fin.ext rfl) (Fin.ext (congrArg (· + (i 1).val) (Nat.mul_comm 256 c.val)))
  · refine (θ_run Cert.ReferenceIdeal.defs _ _).mono (fun _ h => ⟨((h 0).1).trans ?_, (h 0).2⟩) (Cert.ReferenceIdeal.Value.run m' ρ')
    exact ref_eq A.x A.w A.z

theorem claim : Cert.Claim := ⟨Cert.Kernel.Gen.facts, Cert.KernelIdeal.Gen.facts, Cert.ReferenceIdeal.Gen.facts,
  frame_p, frame_pi, frame_ri, trivial, algebraic⟩

end Cert.Proof

end
